-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S8x128x2048 : Shape := ⟨3, ![8, 128, 2048]⟩
abbrev S8x2x2048 : Shape := ⟨3, ![8, 2, 2048]⟩
abbrev S2x8 : Shape := ⟨2, ![2, 8]⟩
abbrev S8 : Shape := ⟨1, ![8]⟩
abbrev S1x1 : Shape := ⟨2, ![1, 1]⟩
abbrev S_ : Shape := ⟨0, ![]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1 : Shape := ⟨1, ![1]⟩
abbrev S1x2x2048 : Shape := ⟨3, ![1, 2, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S8x128x2048, .f32⟩
  | .local _ .vmem, ⟨2, _⟩ => ⟨S8x128x2048, .f32⟩
  | .local _ .vmem, ⟨3, _⟩ => ⟨S2x2048, .f32⟩
  | .local _ .vmem, ⟨4, _⟩ => ⟨S8x2x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v13 : BitVec 32 := Dev.word d0
  let c2_i32_6 : BitVec 32 := 2#32
  let v14 : BitVec 32 := Scalar.divsi v13 c2_i32_6
  let c2_i32_5 : BitVec 32 := 2#32
  let v15 : BitVec 32 := Scalar.remsi v14 c2_i32_5
  let c2_i32_7 : BitVec 32 := 2#32
  let v16 : BitVec 32 := Scalar.muli v15 c2_i32_7
  let v17 : BitVec 32 := Dev.word d0
  let c1_i32_9 : BitVec 32 := 1#32
  let v18 : BitVec 32 := Scalar.divsi v17 c1_i32_9
  let c2_i32_8 : BitVec 32 := 2#32
  let v19 : BitVec 32 := Scalar.remsi v18 c2_i32_8
  let v20 : BitVec 32 := Scalar.addi v16 v19
  let c1024_i32 : BitVec 32 := 1024#32
  let v21 : BitVec 32 := Scalar.muli v20 c1024_i32
  let v22 : BitVec 32 := Scalar.addi v21 c0_i32
  let c0_i32_23 : BitVec 32 := 0#32
  ![v22.toNat, 0]
def k0_cond9 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_321 : BitVec 32 := 0#32
  let v443 : BitVec 1 := Scalar.cmpi .ne v12 c0_i32_321
  let v444 : BitVec 32 := Scalar.extui v443
  let c0_i32_323 : BitVec 32 := 0#32
  let v445 : BitVec 1 := Scalar.cmpi .ne v444 c0_i32_323
  v445

def k0_off2 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off3 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond10 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_324 : BitVec 32 := 1#32
  let v446 : BitVec 1 := Scalar.cmpi .ne v12 c1_i32_324
  let v447 : BitVec 32 := Scalar.extui v446
  let c0_i32_326 : BitVec 32 := 0#32
  let v448 : BitVec 1 := Scalar.cmpi .ne v447 c0_i32_326
  v448

def k0_off4 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off5 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond11 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_327 : BitVec 32 := 2#32
  let v449 : BitVec 1 := Scalar.cmpi .ne v12 c2_i32_327
  let v450 : BitVec 32 := Scalar.extui v449
  let c0_i32_329 : BitVec 32 := 0#32
  let v451 : BitVec 1 := Scalar.cmpi .ne v450 c0_i32_329
  v451

def k0_off6 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off7 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond12 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_330 : BitVec 32 := 3#32
  let v452 : BitVec 1 := Scalar.cmpi .ne v12 c3_i32_330
  let v453 : BitVec 32 := Scalar.extui v452
  let c0_i32_332 : BitVec 32 := 0#32
  let v454 : BitVec 1 := Scalar.cmpi .ne v453 c0_i32_332
  v454

def k0_off8 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off9 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond13 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_333 : BitVec 32 := 4#32
  let v455 : BitVec 1 := Scalar.cmpi .ne v12 c4_i32_333
  let v456 : BitVec 32 := Scalar.extui v455
  let c0_i32_335 : BitVec 32 := 0#32
  let v457 : BitVec 1 := Scalar.cmpi .ne v456 c0_i32_335
  v457

def k0_off10 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off11 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond14 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_336 : BitVec 32 := 5#32
  let v458 : BitVec 1 := Scalar.cmpi .ne v12 c5_i32_336
  let v459 : BitVec 32 := Scalar.extui v458
  let c0_i32_338 : BitVec 32 := 0#32
  let v460 : BitVec 1 := Scalar.cmpi .ne v459 c0_i32_338
  v460

def k0_off12 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off13 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond15 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32_339 : BitVec 32 := 6#32
  let v461 : BitVec 1 := Scalar.cmpi .ne v12 c6_i32_339
  let v462 : BitVec 32 := Scalar.extui v461
  let c0_i32_341 : BitVec 32 := 0#32
  let v463 : BitVec 1 := Scalar.cmpi .ne v462 c0_i32_341
  v463

def k0_off14 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off15 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond16 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32_342 : BitVec 32 := 7#32
  let v464 : BitVec 1 := Scalar.cmpi .ne v12 c7_i32_342
  let v465 : BitVec 32 := Scalar.extui v464
  let c0_i32_344 : BitVec 32 := 0#32
  let v466 : BitVec 1 := Scalar.cmpi .ne v465 c0_i32_344
  v466

def k0_off16 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off17 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_454 : BitVec 32 := 0#32
  let c0_i32_455 : BitVec 32 := 0#32
  ![v12.toNat, 0, 0]
def k0_cond25 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_429 : BitVec 32 := 0#32
  let v541 : BitVec 1 := Scalar.cmpi .ne v12 c0_i32_429
  let v542 : BitVec 32 := Scalar.extui v541
  let c0_i32_431 : BitVec 32 := 0#32
  let v543 : BitVec 1 := Scalar.cmpi .ne v542 c0_i32_431
  v543

def k0_off18 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond26 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_432 : BitVec 32 := 1#32
  let v544 : BitVec 1 := Scalar.cmpi .ne v12 c1_i32_432
  let v545 : BitVec 32 := Scalar.extui v544
  let c0_i32_434 : BitVec 32 := 0#32
  let v546 : BitVec 1 := Scalar.cmpi .ne v545 c0_i32_434
  v546

def k0_off19 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond27 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_435 : BitVec 32 := 2#32
  let v547 : BitVec 1 := Scalar.cmpi .ne v12 c2_i32_435
  let v548 : BitVec 32 := Scalar.extui v547
  let c0_i32_437 : BitVec 32 := 0#32
  let v549 : BitVec 1 := Scalar.cmpi .ne v548 c0_i32_437
  v549

def k0_off20 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond28 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_438 : BitVec 32 := 3#32
  let v550 : BitVec 1 := Scalar.cmpi .ne v12 c3_i32_438
  let v551 : BitVec 32 := Scalar.extui v550
  let c0_i32_440 : BitVec 32 := 0#32
  let v552 : BitVec 1 := Scalar.cmpi .ne v551 c0_i32_440
  v552

def k0_off21 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond29 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_441 : BitVec 32 := 4#32
  let v553 : BitVec 1 := Scalar.cmpi .ne v12 c4_i32_441
  let v554 : BitVec 32 := Scalar.extui v553
  let c0_i32_443 : BitVec 32 := 0#32
  let v555 : BitVec 1 := Scalar.cmpi .ne v554 c0_i32_443
  v555

def k0_off22 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond30 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_444 : BitVec 32 := 5#32
  let v556 : BitVec 1 := Scalar.cmpi .ne v12 c5_i32_444
  let v557 : BitVec 32 := Scalar.extui v556
  let c0_i32_446 : BitVec 32 := 0#32
  let v558 : BitVec 1 := Scalar.cmpi .ne v557 c0_i32_446
  v558

def k0_off23 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond31 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32_447 : BitVec 32 := 6#32
  let v559 : BitVec 1 := Scalar.cmpi .ne v12 c6_i32_447
  let v560 : BitVec 32 := Scalar.extui v559
  let c0_i32_449 : BitVec 32 := 0#32
  let v561 : BitVec 1 := Scalar.cmpi .ne v560 c0_i32_449
  v561

def k0_off24 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
def k0_cond32 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32_450 : BitVec 32 := 7#32
  let v562 : BitVec 1 := Scalar.cmpi .ne v12 c7_i32_450
  let v563 : BitVec 32 := Scalar.extui v562
  let c0_i32_452 : BitVec 32 := 0#32
  let v564 : BitVec 1 := Scalar.cmpi .ne v563 c0_i32_452
  v564

def k0_off25 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_455 : BitVec 32 := 0#32
  let c0_i32_456 : BitVec 32 := 0#32
  ![v12.toNat, 0, 0]
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Cells.lean ====
/-
# The cells of the fused dgamma/dbeta kernel and their schedule

Eight devices. Each holds half of the rows of `x` and `dy`, copies the eight row chunks that are its own into local
memory, sums their contributions to the result into an accumulator, sends the accumulator to a slot of its own on
every other device, and adds what the others sent.

Every semaphore of a device is a cell with a single round of duties:
* the barrier cell: one unit from every other device `d`, which hands over its landing slot in `d`'s receive buffer;
* the sixteen copy cells (two arrays, eight chunks): the local copy hands back its source and the filled chunk slot;
* the eight send cells: the transfer to device `k` hands back a share of the accumulator;
* the eight receive cells: device `k`'s transfer hands over slot `k` holding `k`'s accumulator.
The send and receive cells of a device towards itself have no duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Memrefs -/

/-- The two inputs: `x` and `dy`. -/
abbrev srcM : Fin 2 → Memref sig .tc .hbm S4096x2048 .f32
  | 0 => Memref.whole main_arg0
  | 1 => Memref.whole main_arg1
/-- The chunk buffers they are copied to. -/
abbrev landM : Fin 2 → Memref sig .tc .vmem S8x128x2048 .f32
  | 0 => Memref.whole cc0_scratch0
  | 1 => Memref.whole cc0_scratch1
abbrev accM : Memref sig .tc .vmem S2x2048 .f32 := Memref.whole cc0_scratch2
abbrev recvM : Memref sig .tc .vmem S8x2x2048 .f32 := Memref.whole cc0_scratch3
abbrev outM : Memref sig .tc .vmem S2x2048 .f32 := Memref.whole cc0_stg0_0

theorem inb_land (j : Fin 8) (a : Fin 3) : (![j.val, 0, 0] : Fin 3 → ℕ) a + S1x128x2048.size a ≤ S8x128x2048.size a := by
  revert j a; decide
theorem inb_recv (k : Fin 8) (a : Fin 3) : (![k.val, 0, 0] : Fin 3 → ℕ) a + S1x2x2048.size a ≤ S8x2x2048.size a := by
  revert k a; decide

/-- Chunk `j`'s rectangle of a chunk buffer, and slot `k`'s of the receive buffer. -/
abbrev landR (j : Fin 8) : Rect S8x128x2048 := Rect.unit (s := S8x128x2048) ![j.val, 0, 0] S1x128x2048.size (inb_land j)
abbrev recvR (k : Fin 8) : Rect S8x2x2048 := Rect.unit (s := S8x2x2048) ![k.val, 0, 0] S1x2x2048.size (inb_recv k)

/-- Device `c`'s chunk `j` of an input. -/
abbrev chunkM (a : Fin 2) (c : Dev nD) (j : Fin 8) : Memref sig .tc .hbm S128x2048 .f32 :=
  (srcM a).slice (Rect.unit (s := S4096x2048) (k0_off1 c (BitVec.ofNat 32 (128 * j.val))) S128x2048.size (k0_off1_inb c j)) (fun _ => rfl)
/-- The slot of the chunk buffer it is copied to. -/
abbrev landS (a : Fin 2) (j : Fin 8) : Memref sig .tc .vmem S128x2048 .f32 :=
  ((landM a).slice (landR j) (fun _ => rfl)).squeeze S128x2048 squeezes_S1x128x2048_S128x2048
/-- Slot `k` of the receive buffer: where device `k` sends. -/
abbrev recvS (k : Fin 8) : Memref sig .tc .vmem S2x2048 .f32 :=
  (recvM.slice (recvR k) (fun _ => rfl)).squeeze S2x2048 squeezes_S1x2x2048_S2x2048

/-! ## Semaphores and cells -/

abbrev barS : Sem sig := (SemArray.scalar (sig.barrier 0 rfl) : Sems sig S_).sem

/-- The kinds of cells: the barrier, the copies by array and chunk, the sends and the receives by peer. -/
abbrev OKd : Type := (Fin 2 × Fin 8) ⊕ Fin 8 ⊕ Fin 8
abbrev Kd : Type := Unit ⊕ OKd

set_option backward.proofsInPublic true in
/-- The scoped semaphores among them. -/
def osem : OKd → SemLoc sig
  | .inl aj => .dma ⟨1 + 8 * aj.1.val + aj.2.val, by show _ < 33; omega⟩
  | .inr (.inl k) => .dma ⟨17 + k.val, by show _ < 33; omega⟩
  | .inr (.inr k) => .dma ⟨25 + k.val, by show _ < 33; omega⟩
def csem : Kd → SemLoc sig
  | .inl _ => .reg barS
  | .inr o => osem o

abbrev copyS (a : Fin 2) (j : Fin 8) : SemLoc sig := csem (.inr (.inl (a, j)))
abbrev sendS (k : Fin 8) : SemLoc sig := csem (.inr (.inr (.inl k)))
abbrev rcvS (k : Fin 8) : SemLoc sig := csem (.inr (.inr (.inr k)))

/-- The kind of a semaphore. -/
def kindOf : SemLoc sig → Option Kd
  | .reg s => if s = barS then some (.inl ()) else none
  | .dma q =>
    if h0 : q.val < 1 then none
    else if h1 : q.val < 9 then some (.inr (.inl (0, ⟨q.val - 1, by omega⟩)))
    else if h2 : q.val < 17 then some (.inr (.inl (1, ⟨q.val - 9, by omega⟩)))
    else if h3 : q.val < 25 then some (.inr (.inr (.inl ⟨q.val - 17, by omega⟩)))
    else some (.inr (.inr (.inr ⟨q.val - 25, by have h : q.val < 33 := q.isLt; omega⟩)))

theorem kindOf_csem (k : Kd) : kindOf (csem k) = some k := by revert k; decide
theorem csem_injective : Function.Injective csem := fun a b h => by
  have := congrArg kindOf h; rw [kindOf_csem, kindOf_csem] at this; exact Option.some.inj this

abbrev cellAt (ck : Dev nD × Kd) : GSem nD τ sig := ((ck.1 : Thread nD τ), csem ck.2)
abbrev barCell (c : Dev nD) : GSem nD τ sig := cellAt (c, .inl ())
abbrev copyCell (c : Dev nD) (a : Fin 2) (j : Fin 8) : GSem nD τ sig := cellAt (c, .inr (.inl (a, j)))
abbrev sendCell (c : Dev nD) (k : Fin 8) : GSem nD τ sig := cellAt (c, .inr (.inr (.inl k)))
abbrev recvCell (c : Dev nD) (k : Fin 8) : GSem nD τ sig := cellAt (c, .inr (.inr (.inr k)))

theorem cellAt_injective : Function.Injective (cellAt : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credits of one chunk's copy and of one accumulator's transfer. -/
abbrev Nc : ℕ := (landS 0 0).view.dmaCredit
abbrev Nr : ℕ := (recvS 0).view.dmaCredit
theorem Nc_pos : 0 < Nc := View.dmaCredit_pos _ (by decide)
theorem Nr_pos : 0 < Nr := View.dmaCredit_pos _ (by decide)

/-! ## Contents -/

/-- The contents of input `a` on device `c`. -/
abbrev srcC (a : Fin 2) (c : Dev nD) : Buf (Elt F) ((srcM a).view.loc (c : Thread nD τ)) := m ((srcM a).view.loc (c : Thread nD τ))

/-- Slot `j` of chunk buffer `a` once device `c`'s chunk `j` has been copied there (given on the slot only). -/
def landC (a : Fin 2) (c : Dev nD) (j : Fin 8) : Buf (Elt F) ((landS a j).view.loc (c : Thread nD τ)) :=
  (landS a j).view.write (Elt F) (m ((landS a j).view.loc (c : Thread nD τ))) ((chunkM a c j).view.read (Elt F) (srcC m a c)) Finset.univ

/-- What is loaded from it. -/
def loaded (a : Fin 2) (c : Dev nD) (j : Fin 8) : Vec F S1x128x2048 .f32 := ((landM a).access (landR j)).read (Elt F) (landC m a c j)

/-- The accumulator after the first `n` chunks, and after all. -/
def accUpTo (c : Dev nD) : ℕ → FVec F S2x2048 .f32
  | 0 => k0_pay1
  | n + 1 => if h : n < 8 then k0_pay20 (accUpTo c n) (loaded m 0 c ⟨n, h⟩) (loaded m 1 c ⟨n, h⟩) else accUpTo c n
def accC (c : Dev nD) : FVec F S2x2048 .f32 := accUpTo m c 8

/-- Slot `k` of device `c`'s receive buffer once device `k`'s accumulator has landed there. -/
def recvC (c : Dev nD) (k : Fin 8) : Buf (Elt F) ((recvS k).view.loc (c : Thread nD τ)) :=
  (recvS k).view.write (Elt F) (m ((recvS k).view.loc (c : Thread nD τ))) (accM.view.read (Elt F) (accC m k)) Finset.univ
/-- What is loaded from it. -/
def received (c : Dev nD) (k : Fin 8) : Vec F S1x2x2048 .f32 := (recvM.access (recvR k)).read (Elt F) (recvC m c k)

/-! ## Points-to -/

def chunkPts (a : Fin 2) (c : Dev nD) (j : Fin 8) : sProp 𝕄 :=
  (chunkM a c j).view.loc (c : Thread nD τ) ↦[(chunkM a c j).view.set]{shareTok fullShare 8 j} srcC m a c
def landPts (a : Fin 2) (c : Dev nD) (j : Fin 8) (f : Buf (Elt F) ((landS a j).view.loc (c : Thread nD τ))) : sProp 𝕄 :=
  (landS a j).view.loc (c : Thread nD τ) ↦[(landS a j).view.set]{fullShare} f
def accPts (c : Dev nD) (k : Fin 8) : sProp 𝕄 :=
  accM.view.loc (c : Thread nD τ) ↦[accM.view.set]{shareTok fullShare 8 k} (accC m c : Buf (Elt F) (accM.view.loc (c : Thread nD τ)))
def slotPts (c : Dev nD) (k : Fin 8) (f : Buf (Elt F) ((recvS k).view.loc (c : Thread nD τ))) : sProp 𝕄 :=
  (recvS k).view.loc (c : Thread nD τ) ↦[(recvS k).view.set]{fullShare} f

instance chunkPts_storable (a : Fin 2) (c : Dev nD) (j : Fin 8) : BI.Storable (upEmb : UEmb _ 𝕄) (chunkPts m a c j) := by
  unfold chunkPts; infer_instance
instance landPts_storable (a : Fin 2) (c : Dev nD) (j : Fin 8) (f) : BI.Storable (upEmb : UEmb _ 𝕄) (landPts (F := F) a c j f) := by
  unfold landPts; infer_instance
instance accPts_storable (c : Dev nD) (k : Fin 8) : BI.Storable (upEmb : UEmb _ 𝕄) (accPts m c k) := by
  unfold accPts; infer_instance
instance slotPts_storable (c : Dev nD) (k : Fin 8) (f) : BI.Storable (upEmb : UEmb _ 𝕄) (slotPts (F := F) c k f) := by
  unfold slotPts; infer_instance

/-! ## The schedule -/

/-- Who pays the duties of a cell of device `c`. -/
def payers (c : Dev nD) : Option Kd → Finset (Dev nD)
  | some (.inl _) => Finset.univ.erase c
  | some (.inr (.inl _)) => {c}
  | some (.inr (.inr (.inl k))) => if k = c then ∅ else {c}
  | some (.inr (.inr (.inr k))) => if k = c then ∅ else {k}
  | none => ∅
/-- The units one duty is worth. -/
def units : Option Kd → ℕ
  | some (.inl _) => 1
  | some (.inr (.inl _)) => Nc
  | some (.inr (.inr _)) => Nr
  | none => 1
/-- What device `d`'s duty on a cell of device `c` hands over. -/
def handed (c d : Dev nD) : Option Kd → sProp 𝕄
  | some (.inl _) => iprop((∃ f, slotPts d c f) ∗ reached ER (recvCell d c) 0)
  | some (.inr (.inl aj)) => iprop(landPts aj.1 c aj.2 (landC m aj.1 c aj.2) ∗ chunkPts m aj.1 c aj.2)
  | some (.inr (.inr (.inl k))) => accPts m c k
  | some (.inr (.inr (.inr k))) => slotPts c k (recvC m c k)
  | none => iprop(emp)

def fusedRd : Rounds.Schedule (GSem nD τ sig) (Dev nD) 𝕄 where
  duties g r := if r = 0 ∧ g.1.2 = .tc then payers g.1.1 (kindOf g.2) else ∅
  unitless _ := False
  amount g _ _ := units (kindOf g.2)
  payload g _ d := handed m g.1.1 d (kindOf g.2)
  amount_pos g _ _ _ := by
    rcases kindOf g.2 with _ | (_ | _ | _)
    exacts [Nat.one_pos, Nat.one_pos, Nc_pos, Nr_pos]

instance handed_storable (c d : Dev nD) (k : Option Kd) : BI.Storable (upEmb : UEmb _ 𝕄) (handed m c d k) := by
  rcases k with _ | (_ | _ | _ | _) <;> (unfold handed; infer_instance)
instance fusedRd_payload_storable (g : GSem nD τ sig) (r : ℕ) (d : Dev nD) :
    BI.Storable (upEmb : UEmb _ 𝕄) ((fusedRd (F := F) m).payload g r d) := handed_storable m _ _ _

theorem duties_cell (c : Dev nD) (k : Kd) : (fusedRd (F := F) m).duties (cellAt (c, k)) 0 = payers c (some k) := by
  dsimp only [fusedRd]; rw [if_pos ⟨rfl, rfl⟩, kindOf_csem]
theorem duties_later (g : GSem nD τ sig) : ∀ r, 1 ≤ r → (fusedRd (F := F) m).duties g r = ∅ :=
  fun r hr => by dsimp only [fusedRd]; rw [if_neg fun h => by omega]
theorem amount_cell (c : Dev nD) (k : Kd) (r : ℕ) (d : Dev nD) : (fusedRd (F := F) m).amount (cellAt (c, k)) r d = units (some k) := by
  dsimp only [fusedRd]; rw [kindOf_csem]
theorem payload_cell (c : Dev nD) (k : Kd) (r : ℕ) (d : Dev nD) : (fusedRd (F := F) m).payload (cellAt (c, k)) r d = handed m c d (some k) := by
  dsimp only [fusedRd]; rw [kindOf_csem]
theorem expect_cell (c : Dev nD) (k : Kd) : (fusedRd (F := F) m).expect (cellAt (c, k)) 0 = (payers c (some k)).card * units (some k) := by
  unfold Schedule.expect Schedule.amountOf
  rw [duties_cell, Finset.sum_congr rfl fun d _ => amount_cell m c k 0 d, Finset.sum_const, smul_eq_mul]
/-- What a wait for the whole round hands over. -/
theorem rest_cell (c : Dev nD) (k : Kd) :
    bigSep ((fusedRd (F := F) m).duties (cellAt (c, k)) 0 \ ∅) (fun d => (fusedRd (F := F) m).payload (cellAt (c, k)) 0 d)
      = bigSep (payers c (some k)) fun d => handed m c d (some k) := by
  rw [Finset.sdiff_empty, duties_cell]; exact bigSep_congr fun d _ => payload_cell m c k 0 d

theorem duties_self (c : Dev nD) (k : Kd) (h : payers c (some k) = ∅) (r : ℕ) : (fusedRd (F := F) m).duties (cellAt (c, k)) r = ∅ := by
  rcases Nat.eq_zero_or_pos r with rfl | hr
  · rw [duties_cell, h]
  · exact duties_later m _ r hr

/-! ## What a device owes, and the levels -/

/-- The unit device `c` owes device `k`'s barrier, and the credit it owes `k`'s receive cell: none towards itself. -/
def oweBar1 (c : Dev nD) (k : Fin 8) : CellTallies nD τ sig Unit := if k = c then 0 else tallyAt (barCell k) () 1
def oweRcv1 (c : Dev nD) (k : Fin 8) : CellTallies nD τ sig Unit := if k = c then 0 else tallyAt (recvCell k c) () Nr
/-- What is still owed when the signals to the first `n` devices are out and the transfers to the first `m`. -/
def owed (c : Dev nD) (n m : ℕ) : CellTallies nD τ sig Unit :=
  (∑ k : Fin 8, if m ≤ k.val then oweRcv1 c k else 0) + ∑ k : Fin 8, if n ≤ k.val then oweBar1 c k else 0

theorem peel (f : Fin 8 → CellTallies nD τ sig Unit) (k : Fin 8) :
    (∑ i : Fin 8, if k.val ≤ i.val then f i else 0) = (∑ i : Fin 8, if k.val + 1 ≤ i.val then f i else 0) + f k := by
  rw [← Finset.sum_erase_add _ _ (Finset.mem_univ k), if_pos le_rfl,
    ← Finset.sum_erase_add Finset.univ (fun i : Fin 8 => if k.val + 1 ≤ i.val then f i else 0) (Finset.mem_univ k),
    if_neg (Nat.not_succ_le_self _), add_zero]
  congr 1
  refine Finset.sum_congr rfl fun i hi => ?_
  have hne : i.val ≠ k.val := fun h => (Finset.mem_erase.mp hi).1 (Fin.ext h)
  by_cases h : k.val ≤ i.val
  · rw [if_pos h, if_pos (by omega)]
  · rw [if_neg h, if_neg (by omega)]

theorem owed_bar (c : Dev nD) (k : Fin 8) (m : ℕ) : owed c k.val m = owed c (k.val + 1) m + oweBar1 c k := by
  unfold owed; rw [peel, add_assoc]
theorem owed_rcv (c : Dev nD) (n : ℕ) (k : Fin 8) : owed c n k.val = owed c n (k.val + 1) + oweRcv1 c k := by
  unfold owed; rw [peel, add_right_comm]
theorem owed_done (c : Dev nD) : owed c 8 8 = 0 := by
  unfold owed
  rw [Finset.sum_eq_zero fun i _ => if_neg (by omega), Finset.sum_eq_zero fun i _ => if_neg (by omega), add_zero]

def L (g : GSem nD τ sig) : Finset Unit := if g.1.2 = .tc then {()} else ∅
/-- Barrier cells at 1, receive cells at 2, all others at 0. -/
def lvK : Option Kd → ℕ
  | some (.inl _) => 1
  | some (.inr (.inr (.inr _))) => 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cellAt (c, k)) u = lvK (some k) := by unfold lv; rw [kindOf_csem]

theorem ite_pos {p : Prop} [Decidable p] {a : CellTallies nD τ sig Unit} {g : GSem nD τ sig} {u : Unit}
    (h : 0 < (if p then a else 0) g u) : p ∧ 0 < a g u := by
  by_cases hp : p
  · rw [if_pos hp] at h; exact ⟨hp, h⟩
  · rw [if_neg hp] at h; exact absurd h (Nat.lt_irrefl 0)
theorem sum_pos_cell {f : Fin 8 → CellTallies nD τ sig Unit} {g : GSem nD τ sig} {u : Unit} (h : 0 < (∑ k, f k) g u) : ∃ k, 0 < f k g u := by
  rw [Finset.sum_apply, Finsupp.finset_sum_apply] at h
  by_contra hn
  rw [Finset.sum_eq_zero fun k _ => Nat.eq_zero_of_not_pos fun hk => hn ⟨k, hk⟩] at h
  exact Nat.lt_irrefl 0 h
theorem tally_pos {g g' : GSem nD τ sig} {u v : Unit} {n : ℕ} (h : 0 < tallyAt g v n g' u) : g' = g := by
  rw [tallyAt_apply] at h
  by_contra hn
  rw [if_neg (fun h' => hn h'.1)] at h
  exact Nat.lt_irrefl 0 h

/-- The cells a device owes: others' barrier and receive cells. -/
theorem owed_pos {c : Dev nD} {n m : ℕ} {g : GSem nD τ sig} {u : Unit} (h : 0 < owed c n m g u) :
    (∃ k : Fin 8, g = recvCell k c) ∨ (n < 8 ∧ ∃ k : Fin 8, g = barCell k) := by
  unfold owed at h
  rw [Pi.add_apply, Finsupp.add_apply] at h
  rcases Nat.eq_zero_or_pos ((∑ k : Fin 8, if m ≤ k.val then oweRcv1 c k else 0) g u) with h0 | h0
  · rw [h0, Nat.zero_add] at h
    obtain ⟨k, hk⟩ := sum_pos_cell h
    obtain ⟨hn, hk⟩ := ite_pos hk
    unfold oweBar1 at hk
    by_cases hkc : k = c
    · rw [if_pos hkc] at hk; exact absurd hk (Nat.lt_irrefl 0)
    · rw [if_neg hkc] at hk; exact .inr ⟨by omega, k, tally_pos hk⟩
  · obtain ⟨k, hk⟩ := sum_pos_cell h0
    obtain ⟨-, hk⟩ := ite_pos hk
    unfold oweRcv1 at hk
    by_cases hkc : k = c
    · rw [if_pos hkc] at hk; exact absurd hk (Nat.lt_irrefl 0)
    · rw [if_neg hkc] at hk; exact .inl ⟨k, tally_pos hk⟩

/-- A device may wait at a cell of level 0, whatever it owes; -/
theorem mayWait_low (c : Dev nD) (sm : SemLoc sig) (n m' : ℕ) (hsm : lvK (kindOf sm) = 0) :
    (levAts L lv : sProp 𝕄) ⊢ MayWait (c : Thread nD τ) sm () (owed c n m') :=
  MayOwe.of_cut (L := L) (lev := lv) 0 (fun p hp => by rw [Finset.mem_singleton.mp hp, L_tc]; exact Finset.mem_singleton_self _)
    (fun g u hg => by rcases owed_pos hg with ⟨k, rfl⟩ | ⟨-, k, rfl⟩ <;> exact Finset.mem_singleton_self _)
    (fun p hp => by rw [Finset.mem_singleton.mp hp]; exact hsm.le)
    (fun g u hg => by
      rcases owed_pos hg with ⟨k, rfl⟩ | ⟨-, k, rfl⟩
      · rw [lv_cell]; exact Nat.zero_lt_succ 1
      · rw [lv_cell]; exact Nat.zero_lt_succ 0)
/-- at its barrier once its own signals are out. -/
theorem mayWait_bar (c : Dev nD) (m' : ℕ) :
    (levAts L lv : sProp 𝕄) ⊢ MayWait (c : Thread nD τ) (csem (.inl ())) () (owed c 8 m') :=
  MayOwe.of_cut (L := L) (lev := lv) 1 (fun p hp => by rw [Finset.mem_singleton.mp hp, L_tc]; exact Finset.mem_singleton_self _)
    (fun g u hg => by rcases owed_pos hg with ⟨k, rfl⟩ | ⟨-, k, rfl⟩ <;> exact Finset.mem_singleton_self _)
    (fun p hp => by rw [Finset.mem_singleton.mp hp]; exact (lv_cell c (.inl ()) ()).le)
    (fun g u hg => by
      rcases owed_pos hg with ⟨k, rfl⟩ | ⟨h, -⟩
      · rw [lv_cell]; exact Nat.lt_succ_self 1
      · exact absurd h (Nat.lt_irrefl 8))

/-! ## The records every device holds: all cells' invariants and that all have reached round 0 -/

def records (K : Dev nD × Kd → ℕ) : sProp 𝕄 :=
  iprop((bigSep Finset.univ fun ck : Dev nD × Kd => cellInv ER (fusedRd m) (K ck) (cellAt ck))
    ∗ (bigSep Finset.univ fun ck : Dev nD × Kd => reached ER (cellAt ck) 0) ∗ levAts L lv)

instance records_persistent (K : Dev nD × Kd → ℕ) : BI.Persistent (records m K) := by unfold records; infer_instance

theorem rec_inv (K : Dev nD × Kd → ℕ) (ck : Dev nD × Kd) : records m K ⊢ cellInv ER (fusedRd m) (K ck) (cellAt ck) := by
  unfold records; exact sep_elim_left.trans (bigSep_elim (Finset.mem_univ ck))
theorem rec_reached (K : Dev nD × Kd → ℕ) (ck : Dev nD × Kd) : records m K ⊢ reached ER (cellAt ck) 0 := by
  unfold records; exact sep_elim_right.trans (sep_elim_left.trans (bigSep_elim (Finset.mem_univ ck)))
theorem rec_lev (K : Dev nD × Kd → ℕ) : records m K ⊢ levAts L lv := by
  unfold records; iintro ⟨-, -, H⟩; iexact H

end Cert.Fused
-- ==== Proof.Steps.lean ====
/-
# One statement of the kernel at a time

For every statement of the kernel's body a rule: from the state of the phase it lies in, the statement runs to the next
state. A phase's state is the family, over the eight devices or chunks, of what is held for each: below the count `n`
what is held after the statement for it has run, from `n` on what is held before. A statement guarded by "not this
device itself" is one rule, which does nothing for the device itself.
-/
module

public import proofs.«01_k».proof.Proof.Cells

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

/-- The weakest precondition of a stretch of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Families -/

/-- Below `n` the `Q`s, from `n` on the `P`s. -/
def fam (P Q : Fin 8 → sProp 𝕄) (n : ℕ) : sProp 𝕄 := bigSep Finset.univ fun k : Fin 8 => if k.val < n then Q k else P k

theorem fam_zero (P Q : Fin 8 → sProp 𝕄) : fam P Q 0 = bigSep Finset.univ P := by
  unfold fam; exact bigSep_congr fun k _ => if_neg (Nat.not_lt_zero _)
theorem fam_all (P Q : Fin 8 → sProp 𝕄) : fam P Q 8 = bigSep Finset.univ Q := by
  unfold fam; exact bigSep_congr fun k _ => if_pos k.isLt

theorem fam_step (P Q : Fin 8 → sProp 𝕄) (k : Fin 8) (n n' : ℕ) (hn : k.val = n) (hn' : n + 1 = n') :
    fam P Q n ⊢ iprop(P k ∗ (Q k -∗ fam P Q n')) := by
  subst hn hn'
  unfold fam
  rw [bigSep_univ_at _ k, bigSep_univ_at (fun i : Fin 8 => if i.val < k.val + 1 then Q i else P i) k, if_neg (Nat.lt_irrefl _),
    if_pos (Nat.lt_succ_self _)]
  rw [bigSep_congr (s := Finset.univ.erase k) (Φ := fun i : Fin 8 => if i.val < k.val then Q i else P i)
    (Ψ := fun i : Fin 8 => if i.val < k.val + 1 then Q i else P i) fun i hi => by
      have hne : i.val ≠ k.val := fun h => (Finset.mem_erase.mp hi).1 (Fin.ext h)
      by_cases h : i.val < k.val
      · rw [if_pos h, if_pos (by omega)]
      · rw [if_neg h, if_neg (by omega)]]
  iintro ⟨HP, HR⟩
  isplitl [HP]; · iexact HP
  iintro HQ
  isplitl [HQ] <;> iassumption

/-- One already run, looked at. -/
theorem fam_get (P Q : Fin 8 → sProp 𝕄) (k : Fin 8) (n : ℕ) (hn : k.val < n) :
    fam P Q n ⊢ iprop(Q k ∗ (Q k -∗ fam P Q n)) := by
  unfold fam
  rw [bigSep_univ_at _ k, if_pos hn]
  iintro ⟨HQ, HR⟩
  isplitl [HQ]; · iexact HQ
  iintro HQ
  isplitl [HQ] <;> iassumption

/-- What a device owes, whatever waits it has behind it. -/
def ow (c : Dev nD) (n m' : ℕ) : sProp 𝕄 := iprop(∃ W : Waits sig Unit, owes (c : Thread nD τ) (owed c n m') W)

/-! ## The copies into local memory -/

def copyP (a : Fin 2) (c : Dev nD) (j : Fin 8) : sProp 𝕄 :=
  iprop((∃ f, landPts a c j f) ∗ chunkPts m a c j ∗ dutyTok ER (copyCell c a j) 0 c)
def copyQ (a : Fin 2) (c : Dev nD) (j : Fin 8) : sProp 𝕄 := cred (tallyAt (copyCell c a j) () Nc)
/-- After `n₀` copies of `x` and `n₁` of `dy`. -/
def CopySt (c : Dev nD) (n₀ n₁ : ℕ) : sProp 𝕄 :=
  iprop(records m K ∗ fam (copyP m 0 c) (copyQ 0 c) n₀ ∗ fam (copyP m 1 c) (copyQ 1 c) n₁)

theorem landed_pay (a : Fin 2) (c : Dev nD) (j : Fin 8) (f : Buf (Elt F) ((landS a j).view.loc (c : Thread nD τ))) :
    ((landS a j).view.loc (c : Thread nD τ) ↦[(landS a j).view.set]{fullShare}
      ((landS a j).view.write (Elt F) f ((chunkM a c j).view.read (Elt F) (srcC m a c)) Finset.univ) : sProp 𝕄)
      = landPts a c j (landC m a c j) := by
  unfold landPts landC
  exact pointsTo_congr fun i hi => View.write_congr (v := (landS a j).view) (fun _ _ _ => rfl) (fun h => absurd hi h)

theorem copy_core (a : Fin 2) (c : Dev nD) (j : Fin 8) {src : Memref sig .tc .hbm S128x2048 .f32} (hs : src = chunkM a c j)
    {dst : Memref sig .tc .vmem S128x2048 .f32} (hd : dst = landS a j) {q : SemLoc sig} (hq : q = copyS a j)
    (n n' : ℕ) (hn : j.val = n) (hn' : n + 1 = n')
    {hsrc : src.view.WordExact} {hdst : dst.view.WordExact}
    {hsem : DmaTarget.Typed (nD := nD) (τ := τ) (p := .tc) .hbm q (.here dst)} (Q : PUnit → sProp 𝕄) :
    iprop(records m K ∗ fam (copyP m a c) (copyQ a c) n)
      ⊢ iprop((fam (copyP m a c) (copyQ a c) n' -∗ Q ⟨⟩)
        -∗ WP c (Prog.lift (.enqueueDma src (.here dst) q hsrc hdst hsem)) Q) := by
  unfold WP
  subst hs hd hq
  iintro ⟨#HR, HF⟩ Hk
  ihave H := (fam_step (copyP m a c) (copyQ a c) j n n' hn hn') $$ HF
  icases H with ⟨HP, Hc⟩
  unfold copyP
  icases HP with ⟨⟨%f, Hl⟩, Hs, Ht⟩
  unfold landPts chunkPts Prog.lift
  iapply (Rounds.wp_copy_pointsTo 𝒱₀ ER (fusedRd m) (c : Thread nD τ) none (src := chunkM a c j) (dst := landS a j) (fs := srcC m a c) (fd := f) (r := 0) (d := c)
    (κ := K (c, .inr (.inl (a, j)))) (by rw [duties_cell]; exact Finset.mem_singleton_self _) () Nc rfl (amount_cell m c _ 0 c)
    (by rw [payload_cell, landed_pay]; exact BI.Entails.refl _)) $$ [Hl Hs Ht]
  · isplitr; · iapply (rec_inv m K (c, .inr (.inl (a, j)))); iexact HR
    isplitl [Hs]; · iexact Hs
    isplitl [Hl]; · iexact Hl
    isplitl [Ht]; · iexact Ht
    iapply (rec_reached m K (c, .inr (.inl (a, j)))); iexact HR
  iintro HC
  rw [wp_ret]; imodintro
  iapply Hk
  iapply Hc
  unfold copyQ; iexact HC

/-- Chunk `j` of `x` set off, -/
theorem copy_x (c : Dev nD) (j : Fin 8) {src : Memref sig .tc .hbm S128x2048 .f32} (hs : src = chunkM 0 c j)
    {dst : Memref sig .tc .vmem S128x2048 .f32} (hd : dst = landS 0 j) {q : SemLoc sig} (hq : q = copyS 0 j)
    (n n' n₁ : ℕ) (hn : j.val = n) (hn' : n + 1 = n')
    {hsrc : src.view.WordExact} {hdst : dst.view.WordExact}
    {hsem : DmaTarget.Typed (nD := nD) (τ := τ) (p := .tc) .hbm q (.here dst)} (Q : PUnit → sProp 𝕄) :
    CopySt m K c n n₁ ⊢ iprop((CopySt m K c n' n₁ -∗ Q ⟨⟩)
        -∗ WP c (Prog.lift (.enqueueDma src (.here dst) q hsrc hdst hsem)) Q) := by
  unfold WP
  unfold CopySt
  iintro ⟨#HR, H0, H1⟩ Hk
  iapply (copy_core m K 0 c j hs hd hq n n' hn hn') $$ [H0]
  · isplitr; · iexact HR
    iexact H0
  iintro H0
  iapply Hk
  isplitr; · iexact HR
  isplitl [H0] <;> iassumption
/-- and chunk `j` of `dy`. -/
theorem copy_dy (c : Dev nD) (j : Fin 8) {src : Memref sig .tc .hbm S128x2048 .f32} (hs : src = chunkM 1 c j)
    {dst : Memref sig .tc .vmem S128x2048 .f32} (hd : dst = landS 1 j) {q : SemLoc sig} (hq : q = copyS 1 j)
    (n₀ n n' : ℕ) (hn : j.val = n) (hn' : n + 1 = n')
    {hsrc : src.view.WordExact} {hdst : dst.view.WordExact}
    {hsem : DmaTarget.Typed (nD := nD) (τ := τ) (p := .tc) .hbm q (.here dst)} (Q : PUnit → sProp 𝕄) :
    CopySt m K c n₀ n ⊢ iprop((CopySt m K c n₀ n' -∗ Q ⟨⟩)
        -∗ WP c (Prog.lift (.enqueueDma src (.here dst) q hsrc hdst hsem)) Q) := by
  unfold WP
  unfold CopySt
  iintro ⟨#HR, H0, H1⟩ Hk
  iapply (copy_core m K 1 c j hs hd hq n n' hn hn') $$ [H1]
  · isplitr; · iexact HR
    iexact H1
  iintro H1
  iapply Hk
  isplitr; · iexact HR
  isplitl [H0] <;> iassumption

/-! ## The barrier -/

def sigP (c : Dev nD) (k : Fin 8) : sProp 𝕄 :=
  iprop((∃ f, slotPts c k f) ∗ (if k = c then emp else dutyTok ER (barCell k) 0 c))
def sigQ (c : Dev nD) (k : Fin 8) : sProp 𝕄 := if k = c then iprop(∃ f, slotPts c c f) else iprop(emp)
/-- After the signals to the first `n` devices. -/
def SigSt (c : Dev nD) (n : ℕ) : sProp 𝕄 := iprop(records m K ∗ ow c n 0 ∗ fam (sigP c) (sigQ c) n)

theorem duties_bar (c : Dev nD) : (fusedRd m).duties ((c : Thread nD τ), SemLoc.reg barS) 0 = Finset.univ.erase c := duties_cell m c (.inl ())
theorem amount_bar (c d : Dev nD) : (fusedRd m).amount ((c : Thread nD τ), SemLoc.reg barS) 0 d = 1 := amount_cell m c (.inl ()) 0 d
theorem payload_bar (c d : Dev nD) : (fusedRd m).payload ((c : Thread nD τ), SemLoc.reg barS) 0 d
    = iprop((∃ f, slotPts d c f) ∗ reached ER (recvCell d c) 0) := payload_cell m c (.inl ()) 0 d
theorem expect_bar (c : Dev nD) : (fusedRd m).expect ((c : Thread nD τ), SemLoc.reg barS) 0 = 7 := by
  refine (expect_cell m c (.inl ())).trans ?_
  unfold payers units
  rw [Finset.card_erase_of_mem (Finset.mem_univ c)]; decide
theorem rest_bar (c : Dev nD) : bigSep ((fusedRd m).duties ((c : Thread nD τ), SemLoc.reg barS) 0 \ ∅)
      (fun d => (fusedRd m).payload ((c : Thread nD τ), SemLoc.reg barS) 0 d)
    = bigSep (Finset.univ.erase c) fun d => iprop((∃ f, slotPts d c f) ∗ reached ER (recvCell d c) 0) := rest_cell m c (.inl ())

/-- The signal to device `k`, which hands over this device's slot `k`. -/
theorem signal_step (c : Dev nD) {k : Dev nD} (n n' : ℕ) (hn : k.val = n) (hn' : n + 1 = n') {P : Prop} [Decidable P] (hP : P ↔ k ≠ c)
    (Q : PUnit → sProp 𝕄) :
    SigSt m K c n ⊢ iprop((SigSt m K c n' -∗ Q ⟨⟩)
      -∗ WP c (if _h : P then do
          semSignalWord k barS 1#32
          pure ⟨⟩
        else do
          pure ⟨⟩) Q) := by
  unfold WP
  subst hn hn'
  unfold SigSt ow
  iintro ⟨#HR, ⟨%W, HO⟩, HF⟩ Hk
  ihave H := (fam_step (sigP c) (sigQ c) k k.val (k.val + 1) rfl rfl) $$ HF
  icases H with ⟨HP, Hc⟩
  unfold sigP
  icases HP with ⟨Hsl, Ht⟩
  by_cases hk : k = c
  · rw [dif_neg (fun h => hP.mp h hk), owed_bar c k 0, oweBar1, if_pos (c := k = c) (t := (0 : CellTallies nD τ sig Unit)) hk, add_zero, wp_pure]
    imodintro
    iapply Hk
    isplitr; · iexact HR
    isplitl [HO]; · iexists W; iexact HO
    iapply Hc
    rw [show sigQ c k = iprop(∃ f, slotPts (F := F) c c f) from if_pos hk]
    subst hk; iexact Hsl
  · rw [dif_pos (hP.mpr hk), owed_bar c k 0, oweBar1, if_neg (c := k = c) (t := (0 : CellTallies nD τ sig Unit)) hk]
    ihave Ht := (Entails.of_eq (if_neg hk)) $$ Ht
    rw [wp_bind]; unfold semSignalWord
    rw [show (1#32).toInt = ((1 : ℕ) : ℤ) from by decide]
    iapply (Rounds.wp_signal 𝒱₀ ER (fusedRd m) (c : Thread nD τ) none (dst := (k : Thread nD τ)) (κ := K (k, .inl ())) (r := 0)
      (d := c) (by rw [duties_bar]; exact Finset.mem_erase.mpr ⟨Ne.symm hk, Finset.mem_univ _⟩)
      (amount_bar m k c) () (owed c (k.val + 1) 0) rfl) $$ [HO Ht Hsl]
    · isplitr; · iapply (rec_inv m K (k, .inl ())); iexact HR
      isplitl [HO]; · iexact HO
      isplitl [Ht]; · iexact Ht
      isplitl [Hsl]
      · rw [payload_bar]
        isplitl [Hsl]; · iexact Hsl
        iapply (rec_reached m K (c, .inr (.inr (.inr k)))); iexact HR
      · iapply (rec_reached m K (k, .inl ())); iexact HR
    iintro HO
    rw [wp_ret]; imodintro; rw [wp_pure]; imodintro
    iapply Hk
    isplitr; · iexact HR
    isplitl [HO]; · iexists W; iexact HO
    iapply Hc
    rw [show sigQ (F := F) c k = iprop(emp) from if_neg hk]; iempintro

/-- The wait for the other seven: each hands over its slot for this device. -/
theorem barrier_wait (c : Dev nD) (Q : PUnit → sProp 𝕄) :
    iprop(records m K ∗ ow c 8 0 ∗ cred (tallyAt (barCell c) () 7) ∗ atPos ER (barCell c) 0 ∅ 0)
      ⊢ iprop(((ow c 8 0 ∗ atPos ER (barCell c) 1 ∅ 0 ∗ bigSep (Finset.univ.erase c) fun d : Dev nD => iprop(∃ f, slotPts d c f)) -∗ Q ⟨⟩)
        -∗ WP c (semWaitWord barS 7#32) Q) := by
  unfold WP
  unfold ow
  iintro ⟨#HR, ⟨%W, HO⟩, HC, HA⟩ Hk
  unfold semWaitWord
  iapply (Rounds.wp_wait_rest_token 𝒱₀ ER (fusedRd m) (c : Thread nD τ) none (κ := K (c, .inl ()))
    (wpE_semWait_eq 𝒱₀ (c : Thread nD τ) none Set.univ) (Set.mem_univ _) () (O := owed c 8 0) (W := W) (R := 0) (m := 0) (T := ∅)
    (by rw [expect_bar]; decide)) $$ [HC HO HA]
  · isplitr; · iapply (rec_inv m K (c, .inl ())); iexact HR
    isplitl [HC]; · iexact HC
    isplitl [HO]; · iexact HO
    isplitr; · iapply (mayWait_bar c 0); iapply (rec_lev m K); iexact HR
    iexact HA
  iintro ⟨HO, HA, -, Hpay⟩
  ihave Hp := (Entails.of_eq (rest_bar m c)) $$ Hpay
  rw [wp_ret]; imodintro
  iapply Hk
  isplitl [HO]; · iexists _; iexact HO
  isplitl [HA]; · iexact HA
  iapply (show (bigSep (Finset.univ.erase c) fun d : Dev nD => iprop((∃ f, slotPts (F := F) d c f) ∗ reached ER (recvCell d c) 0))
    ⊢ bigSep (Finset.univ.erase c) fun d : Dev nD => iprop(∃ f, slotPts d c f) from
      bigSep_mono fun d _ => show iprop((∃ f, slotPts (F := F) d c f) ∗ reached ER (recvCell d c) 0) ⊢ iprop(∃ f, slotPts d c f) by
        iintro ⟨H, -⟩; iexact H)
  iexact Hp

/-! ## The waits for the copies, and the loads from them -/

def waitP (a : Fin 2) (c : Dev nD) (j : Fin 8) : sProp 𝕄 :=
  iprop(cred (tallyAt (copyCell c a j) () Nc) ∗ atPos ER (copyCell c a j) 0 ∅ 0)
def waitQ (a : Fin 2) (c : Dev nD) (j : Fin 8) : sProp 𝕄 :=
  iprop(landPts a c j (landC m a c j) ∗ chunkPts m a c j ∗ atPos ER (copyCell c a j) 1 ∅ 0)
/-- After the waits for `n₀` chunks of `x` and `n₁` of `dy`. -/
def WaitSt (c : Dev nD) (n₀ n₁ : ℕ) : sProp 𝕄 :=
  iprop(records m K ∗ ow c 8 0 ∗ fam (waitP 0 c) (waitQ m 0 c) n₀ ∗ fam (waitP 1 c) (waitQ m 1 c) n₁)

/-- A wait for the whole round of a cell of this device with one payer: it takes what that duty hands over. -/
theorem wait_cell (c : Dev nD) (x : OKd) (d : Dev nD) (hx : payers c (some (.inr x)) = {d}) {q : DmaSem sig} (hq : SemLoc.dma q = csem (.inr x))
    (n m' : ℕ) (hmay : (levAts L lv : sProp 𝕄) ⊢ MayWait (c : Thread nD τ) (csem (.inr x)) () (owed c n m'))
    {sp sp' : Space} {s s' : Shape} {e e' : EltTy} {src : Memref sig .tc sp' s' e'} {dst : Memref sig .tc sp s e}
    (hN : dst.view.dmaCredit = units (some (.inr x))) {hsrc : src.view.WordExact} {hdst : dst.view.WordExact} (Q : PUnit → sProp 𝕄) :
    iprop(records m K ∗ ow c n m' ∗ cred (tallyAt (cellAt (c, .inr x)) () (units (some (.inr x)))) ∗ atPos ER (cellAt (c, .inr x)) 0 ∅ 0)
      ⊢ iprop(((ow c n m' ∗ atPos ER (cellAt (c, .inr x)) 1 ∅ 0 ∗ handed m c d (some (.inr x))) -∗ Q ⟨⟩)
        -∗ WP c (Prog.lift (.waitDma2 q src dst hsrc hdst)) Q) := by
  unfold WP ow Prog.lift cellAt
  iintro ⟨#HR, ⟨%W, HO⟩, HC, HA⟩ Hk
  iapply (Rounds.wp_wait_rest_token 𝒱₀ ER (fusedRd m) (c : Thread nD τ) none (κ := K (c, .inr x)) (sm := csem (.inr x)) (k' := units (some (.inr x)))
    (fun R => by rw [← hq, ← hN]; exact wpE_waitDma2_eq 𝒱₀ (c : Thread nD τ) none Set.univ R)
    (Set.mem_univ _) () (O := owed c n m') (W := W) (R := 0) (m := 0) (T := ∅)
    (by rw [expect_cell m c (.inr x), hx, Finset.card_singleton, Nat.zero_add, Nat.one_mul])) $$ [HC HO HA]
  · isplitr; · iapply (rec_inv m K (c, .inr x)); iexact HR
    isplitl [HC]; · iexact HC
    isplitl [HO]; · iexact HO
    isplitr; · iapply hmay; iapply (rec_lev m K); iexact HR
    iexact HA
  iintro ⟨HO, HA, -, Hpay⟩
  ihave Hp := (Entails.of_eq ((rest_cell m c (.inr x)).trans (by rw [hx, bigSep_singleton]))) $$ Hpay
  rw [wp_ret]; imodintro
  iapply Hk
  isplitl [HO]; · iexists _; iexact HO
  isplitl [HA] <;> iassumption

theorem wait_core (a : Fin 2) (c : Dev nD) (j : Fin 8) {q : DmaSem sig} (hq : SemLoc.dma q = copyS a j) (n n' : ℕ) (hn : j.val = n)
    (hn' : n + 1 = n') {sp sp' : Space} {s s' : Shape} {e e' : EltTy} {src : Memref sig .tc sp' s' e'} {dst : Memref sig .tc sp s e}
    (hN : dst.view.dmaCredit = Nc) {hsrc : src.view.WordExact} {hdst : dst.view.WordExact} (Q : PUnit → sProp 𝕄) :
    iprop(records m K ∗ ow c 8 0 ∗ fam (waitP a c) (waitQ m a c) n)
      ⊢ iprop(((ow c 8 0 ∗ fam (waitP a c) (waitQ m a c) n') -∗ Q ⟨⟩)
        -∗ WP c (Prog.lift (.waitDma2 q src dst hsrc hdst)) Q) := by
  iintro ⟨#HR, HO, HF⟩ Hk
  ihave H := (fam_step (waitP a c) (waitQ m a c) j n n' hn hn') $$ HF
  icases H with ⟨HP, Hc⟩
  unfold waitP
  icases HP with ⟨HC, HA⟩
  iapply (wait_cell m K c (.inl (a, j)) c rfl hq 8 0 (mayWait_low c _ 8 0 (by rw [kindOf_csem]; rfl)) hN) $$ [HO HC HA]
  · isplitr; · iexact HR
    isplitl [HO]; · iexact HO
    isplitl [HC]
    · iexact HC
    · iexact HA
  unfold handed
  iintro ⟨HO, HA, Hl, Hs⟩
  iapply Hk
  isplitl [HO]; · iexact HO
  iapply Hc
  unfold waitQ
  isplitl [Hl]; · iexact Hl
  isplitl [Hs] <;> iassumption

theorem wait_x (c : Dev nD) (j : Fin 8) {q : DmaSem sig} (hq : SemLoc.dma q = copyS 0 j) (n n' n₁ : ℕ) (hn : j.val = n)
    (hn' : n + 1 = n') {src : Memref sig .tc .hbm S128x2048 .f32} {dst : Memref sig .tc .vmem S128x2048 .f32}
    (hd : dst = landS 0 j) {hsrc : src.view.WordExact} {hdst : dst.view.WordExact} (Q : PUnit → sProp 𝕄) :
    WaitSt m K c n n₁ ⊢ iprop((WaitSt m K c n' n₁ -∗ Q ⟨⟩) -∗ WP c (Prog.lift (.waitDma2 q src dst hsrc hdst)) Q) := by
  unfold WP
  unfold WaitSt
  iintro ⟨#HR, HO, H0, H1⟩ Hk
  iapply (wait_core m K 0 c j hq n n' hn hn' (by subst hd; rfl)) $$ [HO H0]
  · isplitr; · iexact HR
    isplitl [HO] <;> iassumption
  iintro ⟨HO, H0⟩
  iapply Hk
  isplitr; · iexact HR
  isplitl [HO]; · iexact HO
  isplitl [H0] <;> iassumption
theorem wait_dy (c : Dev nD) (j : Fin 8) {q : DmaSem sig} (hq : SemLoc.dma q = copyS 1 j) (n₀ n n' : ℕ) (hn : j.val = n)
    (hn' : n + 1 = n') {src : Memref sig .tc .hbm S128x2048 .f32} {dst : Memref sig .tc .vmem S128x2048 .f32}
    (hd : dst = landS 1 j) {hsrc : src.view.WordExact} {hdst : dst.view.WordExact} (Q : PUnit → sProp 𝕄) :
    WaitSt m K c n₀ n ⊢ iprop((WaitSt m K c n₀ n' -∗ Q ⟨⟩) -∗ WP c (Prog.lift (.waitDma2 q src dst hsrc hdst)) Q) := by
  unfold WP
  unfold WaitSt
  iintro ⟨#HR, HO, H0, H1⟩ Hk
  iapply (wait_core m K 1 c j hq n n' hn hn' (by subst hd; rfl)) $$ [HO H1]
  · isplitr; · iexact HR
    isplitl [HO] <;> iassumption
  iintro ⟨HO, H1⟩
  iapply Hk
  isplitr; · iexact HR
  isplitl [HO]; · iexact HO
  isplitl [H0] <;> iassumption

theorem land_access_set (a : Fin 2) (j : Fin 8) : ((landM a).access (landR j)).set = (landS a j).view.set := by
  exact (View.set_reshape ((landM a).view.slice (landR j)) _).symm

theorem load_core (a : Fin 2) (c : Dev nD) (j : Fin 8) (n : ℕ) (hn : j.val < n)
    {hl : (landM a).view.LoadsAt (landR j).toLoadRect} (Q : Vec F S1x128x2048 .f32 → sProp 𝕄) :
    fam (waitP a c) (waitQ m a c) n
      ⊢ iprop((fam (waitP a c) (waitQ m a c) n -∗ Q (loaded m a c j)) -∗ WP c (Prog.lift (.load (landM a) (landR j).toLoadRect hl)) Q) := by
  unfold WP
  iintro HF Hk
  ihave H := (fam_get (waitP a c) (waitQ m a c) j n hn) $$ HF
  icases H with ⟨HP, Hc⟩
  unfold waitQ Prog.lift loaded
  icases HP with ⟨Hl, Hs, HA⟩
  unfold landPts
  iapply (wp_load_rect 𝒱₀ (c : Thread nD τ) none Set.univ (m := landM a) (r := landR j) (by rw [land_access_set])) $$ Hl
  iintro Hl
  rw [wp_ret]; imodintro
  iapply Hk
  iapply Hc
  isplitl [Hl]; · iexact Hl
  isplitl [Hs] <;> iassumption

theorem load_x (c : Dev nD) (j : Fin 8) (n n₁ : ℕ) (hn : j.val < n)
    {hl : (landM 0).view.LoadsAt (landR j).toLoadRect} (Q : Vec F S1x128x2048 .f32 → sProp 𝕄) :
    WaitSt m K c n n₁
      ⊢ iprop((WaitSt m K c n n₁ -∗ Q (loaded m 0 c j)) -∗ WP c (Prog.lift (.load (landM 0) (landR j).toLoadRect hl)) Q) := by
  unfold WP
  unfold WaitSt
  iintro ⟨#HR, HO, H0, H1⟩ Hk
  iapply (load_core m 0 c j n hn) $$ H0
  iintro H0
  iapply Hk
  isplitr; · iexact HR
  isplitl [HO]; · iexact HO
  isplitl [H0] <;> iassumption
theorem load_dy (c : Dev nD) (j : Fin 8) (n₀ n : ℕ) (hn : j.val < n)
    {hl : (landM 1).view.LoadsAt (landR j).toLoadRect} (Q : Vec F S1x128x2048 .f32 → sProp 𝕄) :
    WaitSt m K c n₀ n
      ⊢ iprop((WaitSt m K c n₀ n -∗ Q (loaded m 1 c j)) -∗ WP c (Prog.lift (.load (landM 1) (landR j).toLoadRect hl)) Q) := by
  unfold WP
  unfold WaitSt
  iintro ⟨#HR, HO, H0, H1⟩ Hk
  iapply (load_core m 1 c j n hn) $$ H1
  iintro H1
  iapply Hk
  isplitr; · iexact HR
  isplitl [HO]; · iexact HO
  isplitl [H0] <;> iassumption

/-! ## The transfers of the accumulator -/

def sendP (c : Dev nD) (k : Fin 8) : sProp 𝕄 :=
  iprop(accPts m c k ∗ (if k = c then emp else
    iprop((∃ f, slotPts k c f) ∗ dutyTok ER (sendCell c k) 0 c ∗ dutyTok ER (recvCell k c) 0 c)))
def sendQ (c : Dev nD) (k : Fin 8) : sProp 𝕄 := if k = c then accPts m c k else cred (tallyAt (sendCell c k) () Nr)
/-- After the transfers to the first `n` devices. -/
def SendSt (c : Dev nD) (n : ℕ) : sProp 𝕄 := iprop(records m K ∗ ow c 8 n ∗ fam (sendP m c) (sendQ m c) n)

theorem sent_pay (k c : Dev nD) (f : Buf (Elt F) ((recvS c).view.loc (k : Thread nD τ))) :
    ((recvS c).view.loc (k : Thread nD τ) ↦[(recvS c).view.set]{fullShare}
      ((recvS c).view.write (Elt F) f (accM.view.read (Elt F) (accC m c)) Finset.univ) : sProp 𝕄)
      = slotPts k c (recvC m k c) := by
  unfold slotPts recvC
  exact pointsTo_congr fun i hi => View.write_congr (v := (recvS c).view) (fun _ _ _ => rfl) (fun h => absurd hi h)

/-- The transfer to device `k`, into its slot for this device. -/
theorem send_step (c : Dev nD) {k : Dev nD} (n n' : ℕ) (hn : k.val = n) (hn' : n + 1 = n') {P : Prop} [Decidable P] (hP : P ↔ k ≠ c)
    {dst : P → Memref sig .tc .vmem S2x2048 .f32} (hd : ∀ h, dst h = recvS c) {q : SemLoc sig} (hq : q = sendS k)
    {q' : P → SemLoc sig} (hq' : ∀ h, q' h = rcvS c) {hsc : ∀ h, (dst h).view.ref.isScScratch = false}
    {hsrc : P → accM.view.WordExact} {hdst : ∀ h, (dst h).view.WordExact}
    {hsem : ∀ h, DmaTarget.Typed (nD := nD) (τ := τ) (p := .tc) .vmem (q' h) (.remote (Dev.tc k) (dst h) q (hsc h))} (Q : PUnit → sProp 𝕄) :
    SendSt m K c n ⊢ iprop((SendSt m K c n' -∗ Q ⟨⟩)
      -∗ WP c (if h : P then do
          Prog.lift (.enqueueDma accM (.remote (Dev.tc k) (dst h) q (hsc h)) (q' h) (hsrc h) (hdst h) (hsem h))
          pure ⟨⟩
        else do
          pure ⟨⟩) Q) := by
  unfold WP
  subst hn hn'
  unfold SendSt ow
  iintro ⟨#HR, ⟨%W, HO⟩, HF⟩ Hk
  ihave H := (fam_step (sendP m c) (sendQ m c) k k.val (k.val + 1) rfl rfl) $$ HF
  icases H with ⟨HP, Hc⟩
  unfold sendP
  icases HP with ⟨Ha, Ht⟩
  by_cases hk : k = c
  · rw [dif_neg (fun h => hP.mp h hk), owed_rcv c 8 k, oweRcv1, if_pos (c := k = c) (t := (0 : CellTallies nD τ sig Unit)) hk, add_zero, wp_pure]
    imodintro
    iapply Hk
    isplitr; · iexact HR
    isplitl [HO]; · iexists W; iexact HO
    iapply Hc
    rw [show sendQ m c k = accPts m c k from if_pos hk]; iexact Ha
  · have h : P := hP.mpr hk
    rw [dif_pos h, owed_rcv c 8 k, oweRcv1, if_neg (c := k = c) (t := (0 : CellTallies nD τ sig Unit)) hk]
    ihave Ht := (Entails.of_eq (if_neg hk)) $$ Ht
    icases Ht with ⟨⟨%f, Hsl⟩, Ht, Ht'⟩
    generalize hdst h = hdst', hsem h = hsem', hsrc h = hsrc', hsc h = hsc'
    clear hdst hsem hsrc
    have hd' := hd h
    have hq'' := hq' h
    generalize dst h = dst', q' h = q₁ at *
    subst hd' hq'' hq
    rw [wp_bind]; unfold Prog.lift
    unfold accPts slotPts
    iapply (Rounds.wp_send_pointsTo 𝒱₀ ER (fusedRd m) (c : Thread nD τ) none (c' := (k : Thread nD τ)) (src := accM) (dst := recvS c) (fd := f)
      (r₁ := 0) (r₂ := 0) (d₁ := c) (d₂ := c) (κ₁ := K (c, .inr (.inr (.inl k)))) (κ₂ := K (k, .inr (.inr (.inr c))))
      (by rw [(duties_cell m c (.inr (.inr (.inl k)))).trans (if_neg hk)]; exact Finset.mem_singleton_self _)
      (by rw [(duties_cell m k (.inr (.inr (.inr c)))).trans (if_neg (Ne.symm hk))]; exact Finset.mem_singleton_self _)
      () () Nr rfl (amount_cell m c _ 0 c) (amount_cell m k _ 0 c) (owed c 8 (k.val + 1)) rfl
      (by rw [payload_cell]; exact BI.Entails.refl _)
      (by rw [payload_cell, sent_pay]; exact BI.Entails.refl _)) $$ [HO Ha Hsl Ht Ht']
    · isplitr; · iapply (rec_inv m K (c, .inr (.inr (.inl k)))); iexact HR
      isplitr; · iapply (rec_inv m K (k, .inr (.inr (.inr c)))); iexact HR
      isplitl [Ha]; · iexact Ha
      isplitl [Hsl]; · iexact Hsl
      isplitl [HO]; · iexact HO
      isplitl [Ht]; · iexact Ht
      isplitr; · iapply (rec_reached m K (c, .inr (.inr (.inl k)))); iexact HR
      isplitl [Ht']; · iexact Ht'
      iapply (rec_reached m K (k, .inr (.inr (.inr c)))); iexact HR
    iintro ⟨HC, HO⟩
    rw [wp_ret]; imodintro; rw [wp_pure]; imodintro
    iapply Hk
    isplitr; · iexact HR
    isplitl [HO]; · iexists W; iexact HO
    iapply Hc
    rw [show sendQ m c k = cred (tallyAt (sendCell c k) () Nr) from if_neg hk]; iexact HC

/-! ## The waits for what the others send, and the loads of it -/

def recvP (c : Dev nD) (k : Fin 8) : sProp 𝕄 :=
  iprop(atPos ER (recvCell c k) 0 ∅ 0 ∗ (if k = c then iprop(∃ f, slotPts c k f) else cred (tallyAt (recvCell c k) () Nr)))
def recvQ (c : Dev nD) (k : Fin 8) : sProp 𝕄 :=
  if k = c then iprop(atPos ER (recvCell c k) 0 ∅ 0 ∗ ∃ f, slotPts c k f)
  else iprop(atPos ER (recvCell c k) 1 ∅ 0 ∗ slotPts c k (recvC m c k))
/-- After the waits for the first `n` devices. -/
def RecvSt (c : Dev nD) (n : ℕ) : sProp 𝕄 := iprop(records m K ∗ ow c 8 8 ∗ fam (recvP c) (recvQ m c) n)

/-- Owing nothing, a device may wait anywhere. -/
theorem mayWait_free (c : Dev nD) (sm : SemLoc sig) : (levAts L lv : sProp 𝕄) ⊢ MayWait (c : Thread nD τ) sm () (owed c 8 8) := by
  rw [owed_done, MayWait_zero]; iintro -; iempintro

/-- The wait for device `k`. -/
theorem recv_step (c : Dev nD) (k : Fin 8) (n n' : ℕ) (hn : k.val = n) (hn' : n + 1 = n') {P : Prop} [Decidable P] (hP : P ↔ k ≠ c)
    {q : DmaSem sig} (hq : SemLoc.dma q = rcvS k)
    {dst : Memref sig .tc .vmem S2x2048 .f32} (hd : dst = recvS k) {hsrc : P → accM.view.WordExact} {hdst : P → dst.view.WordExact}
    (Q : PUnit → sProp 𝕄) :
    RecvSt m K c n ⊢ iprop((RecvSt m K c n' -∗ Q ⟨⟩)
      -∗ WP c (if h : P then do
          Prog.lift (.waitDma2 q accM dst (hsrc h) (hdst h))
          pure ⟨⟩
        else do
          pure ⟨⟩) Q) := by
  unfold WP
  unfold RecvSt
  iintro ⟨#HR, HO, HF⟩ Hk
  ihave H := (fam_step (recvP c) (recvQ m c) k n n' hn hn') $$ HF
  icases H with ⟨HP, Hc⟩
  unfold recvP
  icases HP with ⟨HA, HX⟩
  by_cases hk : k = c
  · rw [dif_neg (fun h => hP.mp h hk), wp_pure]
    ihave HX := (Entails.of_eq (if_pos hk)) $$ HX
    imodintro
    iapply Hk
    isplitr; · iexact HR
    isplitl [HO]; · iexact HO
    iapply Hc
    rw [show recvQ m c k = iprop(atPos ER (recvCell c k) 0 ∅ 0 ∗ ∃ f, slotPts c k f) from if_pos hk]
    isplitl [HA] <;> iassumption
  · rw [dif_pos (hP.mpr hk)]
    ihave HX := (Entails.of_eq (if_neg hk)) $$ HX
    rw [wp_bind]
    iapply (wait_cell m K c (.inr (.inr k)) k (if_neg hk) hq 8 8 (mayWait_free c _) (by subst hd; rfl)) $$ [HO HA HX]
    · isplitr; · iexact HR
      isplitl [HO]; · iexact HO
      isplitl [HX]
      · iexact HX
      · iexact HA
    unfold handed
    iintro ⟨HO, HA, Hs⟩
    rw [wp_pure]; imodintro
    iapply Hk
    isplitr; · iexact HR
    isplitl [HO]; · iexact HO
    iapply Hc
    rw [show recvQ m c k = iprop(atPos ER (recvCell c k) 1 ∅ 0 ∗ slotPts c k (recvC m c k)) from if_neg hk]
    isplitl [HA]
    · iexact HA
    · iexact Hs

theorem recv_access_set (k : Fin 8) : (recvM.access (recvR k)).set = (recvS k).view.set := by
  exact (View.set_reshape (recvM.view.slice (recvR k)) _).symm

/-- The load of device `k`'s slot: `k`'s accumulator, or anything in this device's own slot. -/
theorem recv_load (c : Dev nD) (k : Fin 8) (n : ℕ) (hn : k.val < n)
    {hl : recvM.view.LoadsAt (recvR k).toLoadRect} (Q : Vec F S1x2x2048 .f32 → sProp 𝕄) :
    RecvSt m K c n
      ⊢ iprop((∀ v, ⌜k ≠ c → v = received m c k⌝ -∗ RecvSt m K c n -∗ Q v) -∗ WP c (Prog.lift (.load recvM (recvR k).toLoadRect hl)) Q) := by
  unfold WP
  unfold RecvSt
  iintro ⟨#HR, HO, HF⟩ Hk
  ihave H := (fam_get (recvP c) (recvQ m c) k n hn) $$ HF
  icases H with ⟨HP, Hc⟩
  unfold Prog.lift
  by_cases hk : k = c
  · ihave HP := (Entails.of_eq (show recvQ m c k = iprop(atPos ER (recvCell c k) 0 ∅ 0 ∗ ∃ f, slotPts c k f) from if_pos hk)) $$ HP
    rw [show recvQ m c k = iprop(atPos ER (recvCell c k) 0 ∅ 0 ∗ ∃ f, slotPts c k f) from if_pos hk]
    icases HP with ⟨HA, ⟨%f, Hs⟩⟩
    unfold slotPts
    iapply (wp_load_rect 𝒱₀ (c : Thread nD τ) none Set.univ (m := recvM) (r := recvR k) (by rw [recv_access_set])) $$ Hs
    iintro Hs
    rw [wp_ret]; imodintro
    iapply Hk
    · ipureintro; exact fun h => absurd hk h
    isplitr; · iexact HR
    isplitl [HO]; · iexact HO
    iapply Hc
    isplitl [HA]; · iexact HA
    iexists f; iexact Hs
  · ihave HP := (Entails.of_eq (show recvQ m c k = iprop(atPos ER (recvCell c k) 1 ∅ 0 ∗ slotPts c k (recvC m c k)) from if_neg hk)) $$ HP
    rw [show recvQ m c k = iprop(atPos ER (recvCell c k) 1 ∅ 0 ∗ slotPts c k (recvC m c k)) from if_neg hk]
    icases HP with ⟨HA, Hs⟩
    unfold slotPts
    iapply (wp_load_rect 𝒱₀ (c : Thread nD τ) none Set.univ (m := recvM) (r := recvR k) (by rw [recv_access_set])) $$ Hs
    iintro Hs
    rw [wp_ret]; imodintro
    iapply Hk
    · ipureintro; exact fun _ => rfl
    isplitr; · iexact HR
    isplitl [HO]; · iexact HO
    iapply Hc
    isplitl [HA] <;> iassumption

/-! ## The waits for this device's own transfers -/

def backP (c : Dev nD) (k : Fin 8) : sProp 𝕄 :=
  iprop(atPos ER (sendCell c k) 0 ∅ 0 ∗ (if k = c then accPts m c k else cred (tallyAt (sendCell c k) () Nr)))
def backQ (c : Dev nD) (k : Fin 8) : sProp 𝕄 :=
  iprop(atPos ER (sendCell c k) (if k = c then 0 else 1) ∅ 0 ∗ accPts m c k)
/-- After the waits for the transfers to the first `n` devices. -/
def BackSt (c : Dev nD) (n : ℕ) : sProp 𝕄 := iprop(records m K ∗ ow c 8 8 ∗ fam (backP m c) (backQ m c) n)

/-- The accumulator's transfer is worth what a slot's is. -/
theorem acc_credit : accM.view.dmaCredit = Nr := show RefSig.tileCredit S2x2048 .f32 = RefSig.tileCredit S2x2048 .f32 from rfl

theorem back_step (c : Dev nD) (k : Fin 8) (n n' : ℕ) (hn : k.val = n) (hn' : n + 1 = n') {P : Prop} [Decidable P] (hP : P ↔ k ≠ c)
    {q : DmaSem sig} (hq : SemLoc.dma q = sendS k) {src : P → Memref sig .tc .vmem S2x2048 .f32}
    {hsrc : ∀ h, (src h).view.WordExact} {hdst : P → accM.view.WordExact}
    (Q : PUnit → sProp 𝕄) :
    BackSt m K c n ⊢ iprop((BackSt m K c n' -∗ Q ⟨⟩)
      -∗ WP c (if h : P then do
          Prog.lift (.waitDma2 q (src h) accM (hsrc h) (hdst h))
          pure ⟨⟩
        else do
          pure ⟨⟩) Q) := by
  unfold WP
  unfold BackSt
  iintro ⟨#HR, HO, HF⟩ Hk
  ihave H := (fam_step (backP m c) (backQ m c) k n n' hn hn') $$ HF
  icases H with ⟨HP, Hc⟩
  unfold backP
  icases HP with ⟨HA, HX⟩
  by_cases hk : k = c
  · rw [dif_neg (fun h => hP.mp h hk), wp_pure]
    ihave HX := (Entails.of_eq (if_pos hk)) $$ HX
    imodintro
    iapply Hk
    isplitr; · iexact HR
    isplitl [HO]; · iexact HO
    iapply Hc
    rw [show backQ m c k = iprop(atPos ER (sendCell c k) 0 ∅ 0 ∗ accPts m c k) from by unfold backQ; rw [if_pos hk]]
    isplitl [HA] <;> iassumption
  · rw [dif_pos (hP.mpr hk)]
    ihave HX := (Entails.of_eq (if_neg hk)) $$ HX
    rw [wp_bind]
    iapply (wait_cell m K c (.inr (.inl k)) c (if_neg hk) hq 8 8 (mayWait_free c _) acc_credit) $$ [HO HA HX]
    · isplitr; · iexact HR
      isplitl [HO]; · iexact HO
      isplitl [HX]
      · iexact HX
      · iexact HA
    unfold handed
    iintro ⟨HO, HA, Hs⟩
    rw [wp_pure]; imodintro
    iapply Hk
    isplitr; · iexact HR
    isplitl [HO]; · iexact HO
    iapply Hc
    rw [show backQ m c k = iprop(atPos ER (sendCell c k) 1 ∅ 0 ∗ accPts m c k) from by unfold backQ; rw [if_neg hk]]
    isplitl [HA]
    · iexact HA
    · iexact Hs

end Cert.Fused
-- ==== Proof.Body.lean ====
/-
# The body's parts

The body is printed in eighteen parts. Each part is run here from the state of the phase it lies in to the next.
-/
module

public import proofs.«01_k».proof.Proof.Steps
public import Idealize.ShloMosaic.Lib.Pointwise.Reshape

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

/-- A function of the body's buffers and semaphore arrays, at those the body is called with. -/
abbrev bufs {β : Type 1} (f : (arg0 : Memref sig .tc .hbm S4096x2048 .f32) → arg0.IsWhole → (arg1 : Memref sig .tc .hbm S4096x2048 .f32) →
    arg1.IsWhole → (arg2 : Memref sig .tc .vmem S2x2048 .f32) → arg2.IsWhole → (arg3 : Memref sig .tc .vmem S8x128x2048 .f32) →
    arg3.IsWhole → (arg4 : Memref sig .tc .vmem S8x128x2048 .f32) → arg4.IsWhole → (arg5 : Memref sig .tc .vmem S2x2048 .f32) →
    arg5.IsWhole → (arg6 : Memref sig .tc .vmem S8x2x2048 .f32) → arg6.IsWhole → DmaSems sig S2x8 → DmaSems sig S8 → DmaSems sig S8 → β) : β :=
  f (Memref.whole main_arg0) (Memref.isWhole_whole _) (Memref.whole main_arg1) (Memref.isWhole_whole _) (Memref.whole cc0_stg0_0)
    (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5
    cc0_scratch6

/-! ## Conditions, offsets, sums -/

/-- A device's number as a word. -/
abbrev myW (c : Dev nD) : BitVec 32 := BitVec.ofNat 32 c.val

/-- The guard of a statement towards device `k`, as the printed words compute it. -/
abbrev guardW (c k : Fin 8) : BitVec 1 := Scalar.cmpi .ne ((Scalar.extui (Scalar.cmpi .ne (myW c) (BitVec.ofNat 32 k.val)) : BitVec 32)) 0#32
theorem guard_iff (c k : Fin 8) : guardW c k = 1#1 ↔ k ≠ c := by revert c k; decide

/-- The rows and the column sums one chunk adds to the accumulator, however the printed parts share the steps between them. -/
theorem add_first (t : FVec F S2x2048 .f32) (x dy : Vec F S1x128x2048 .f32) :
    k0_pay5 t (k0_pay2 dy) (k0_pay3 x) (k0_pay4 x) = k0_pay20 t x dy := by
  exact (shapeCast_id _ _).symm
theorem add_second (t : FVec F S2x2048 .f32) (x dy : Vec F S1x128x2048 .f32) :
    k0_pay9 t (k0_pay6 x) (k0_pay7 dy) (k0_pay8 x) = k0_pay20 t x dy := by
  exact (shapeCast_id _ _).symm
theorem add_third (t : FVec F S2x2048 .f32) (x dy : Vec F S1x128x2048 .f32) :
    k0_pay13 t (k0_pay10 x) (k0_pay11 dy) (k0_pay12 x) = k0_pay20 t x dy := by
  exact (shapeCast_id _ _).symm
theorem add_fourth (t : FVec F S2x2048 .f32) (x dy : Vec F S1x128x2048 .f32) :
    k0_pay15 t (k0_pay14 x) dy = k0_pay20 t x dy := by
  exact (shapeCast_id _ _).symm
theorem add_fifth (t : FVec F S2x2048 .f32) (x dy : Vec F S1x128x2048 .f32) :
    k0_pay17 t (k0_pay16 x) dy = k0_pay20 t x dy := by
  exact (shapeCast_id _ _).symm
theorem add_sixth (t : FVec F S2x2048 .f32) (x dy : Vec F S1x128x2048 .f32) : k0_pay18 t x dy = k0_pay20 t x dy := by
  exact (shapeCast_id _ _).symm
theorem add_seventh (t : FVec F S2x2048 .f32) (x dy : Vec F S1x128x2048 .f32) : k0_pay19 t x dy = k0_pay20 t x dy := by
  exact (shapeCast_id _ _).symm

theorem accUpTo_succ (c : Dev nD) (j : Fin 8) (n : ℕ) (hn : j.val = n) :
    k0_pay20 (accUpTo m c n) (loaded m 0 c j) (loaded m 1 c j) = accUpTo m c (n + 1) := by
  subst hn
  conv_rhs => unfold accUpTo
  rw [dif_pos j.isLt]
theorem accUpTo_zero (c : Dev nD) : k0_pay1 = accUpTo m c 0 := rfl

/-- The number the device computes from its mesh coordinates is its own. -/
theorem word_eq (c : Dev nD) : Scalar.addi (Scalar.addi (Scalar.muli (Scalar.remsi (Scalar.divsi (Dev.word c) 4#32) 2#32) 4#32)
    (Scalar.muli (Scalar.remsi (Scalar.divsi (Dev.word c) 2#32) 2#32) 2#32)) (Scalar.remsi (Scalar.divsi (Dev.word c) 1#32) 2#32) = myW c := by
  revert c; decide

/-- A statement under a condition, followed by the rest of the program on either side of it. -/
theorem wp_guarded (c : Dev nD) {α : Type} {P : Prop} [Decidable P] {A : P → Prog (TpuEff nD τ sig (Elt F) Λ₀ .tc) PUnit}
    {rest : Prog (TpuEff nD τ sig (Elt F) Λ₀ .tc) α} (Q : α → sProp 𝕄) :
    WP c (α := PUnit) (if h : P then do A h; pure ⟨⟩ else pure ⟨⟩) (fun _ => WP c rest Q) ⊢ WP c (if h : P then do A h; rest else rest) Q := by
  unfold WP
  by_cases h : P
  · rw [dif_pos h, dif_pos h, wp_bind, wp_bind]
    exact wp_mono _ _ _ fun _ => by rw [wp_pure]; exact fupd_wp _ _ _ _ _
  · rw [dif_neg h, dif_neg h, wp_pure]
    exact fupd_wp _ _ _ _ _

/-! ## The copies -/

theorem part1 (c : Dev nD) (Q : _ → sProp 𝕄) :
    iprop(∀ v w, Q ⟨c, myW c, v, w⟩) ⊢ WP c (bufs (k0_part1 (F := F))) Q := by
  unfold WP bufs
  rw [k0_part1_eq_skeleton]
  unfold k0_part1_skel
  simp only [wp_bind]
  iintro Hk
  unfold Prog.lift
  rw [wp_deviceId, wp_ret]; imodintro
  rw [wp_pure]; imodintro
  rw [show ((c : Thread nD τ)).1 = c from rfl, word_eq c]
  iapply Hk

theorem part2 (c : Dev nD) (v21 w : BitVec 32) (Q : PUnit → sProp 𝕄) :
    CopySt m K c 0 0 ⊢ iprop((CopySt m K c 2 2 -∗ Q ⟨⟩) -∗ WP c ((bufs (k0_part2 (F := F))) c v21 w) Q) := by
  unfold WP bufs
  rw [k0_part2_eq_skeleton]
  unfold k0_part2_skel
  simp only [wp_bind]
  iintro H Hk
  iapply (copy_x m K c 0 rfl rfl rfl 0 1 0 rfl rfl) $$ H; iintro H
  iapply (copy_dy m K c 0 rfl rfl rfl 1 0 1 rfl rfl) $$ H; iintro H
  iapply (copy_x m K c 1 rfl rfl rfl 1 2 1 rfl rfl) $$ H; iintro H
  iapply (copy_dy m K c 1 rfl rfl rfl 2 1 2 rfl rfl) $$ H; iintro H
  rw [wp_pure]; imodintro
  iapply Hk; iexact H

theorem part3 (c : Dev nD) (Q : PUnit → sProp 𝕄) :
    CopySt m K c 2 2 ⊢ iprop((CopySt m K c 5 4 -∗ Q ⟨⟩) -∗ WP c ((bufs (k0_part3 (F := F))) c) Q) := by
  unfold WP bufs
  rw [k0_part3_eq_skeleton]
  unfold k0_part3_skel
  simp only [wp_bind]
  iintro H Hk
  iapply (copy_x m K c 2 rfl rfl rfl 2 3 2 rfl rfl) $$ H; iintro H
  iapply (copy_dy m K c 2 rfl rfl rfl 3 2 3 rfl rfl) $$ H; iintro H
  iapply (copy_x m K c 3 rfl rfl rfl 3 4 3 rfl rfl) $$ H; iintro H
  iapply (copy_dy m K c 3 rfl rfl rfl 4 3 4 rfl rfl) $$ H; iintro H
  iapply (copy_x m K c 4 rfl rfl rfl 4 5 4 rfl rfl) $$ H; iintro H
  rw [wp_pure]; imodintro
  iapply Hk; iexact H

theorem part4 (c : Dev nD) (Q : PUnit → sProp 𝕄) :
    CopySt m K c 5 4 ⊢ iprop((CopySt m K c 7 7 -∗ Q ⟨⟩) -∗ WP c ((bufs (k0_part4 (F := F))) c) Q) := by
  unfold WP bufs
  rw [k0_part4_eq_skeleton]
  unfold k0_part4_skel
  simp only [wp_bind]
  iintro H Hk
  iapply (copy_dy m K c 4 rfl rfl rfl 5 4 5 rfl rfl) $$ H; iintro H
  iapply (copy_x m K c 5 rfl rfl rfl 5 6 5 rfl rfl) $$ H; iintro H
  iapply (copy_dy m K c 5 rfl rfl rfl 6 5 6 rfl rfl) $$ H; iintro H
  iapply (copy_x m K c 6 rfl rfl rfl 6 7 6 rfl rfl) $$ H; iintro H
  iapply (copy_dy m K c 6 rfl rfl rfl 7 6 7 rfl rfl) $$ H; iintro H
  rw [wp_pure]; imodintro
  iapply Hk; iexact H

theorem part5 (c : Dev nD) (Q : _ → sProp 𝕄) :
    iprop(CopySt m K c 7 7 ∗ SigSt m K c 0)
      ⊢ iprop(((CopySt m K c 8 8 ∗ SigSt m K c 6) -∗ Q ⟨SemArray.scalar (sig.barrier 0 rfl), Scalar.cmpi .ne (myW c) 6#32⟩)
        -∗ WP c ((bufs (k0_part5 (F := F))) c (myW c)) Q) := by
  unfold WP bufs
  rw [k0_part5_eq_skeleton]
  unfold k0_part5_skel
  simp only [wp_bind]
  iintro ⟨H, HS⟩ Hk
  iapply (copy_x m K c 7 rfl rfl rfl 7 8 7 rfl rfl) $$ H; iintro H
  iapply (copy_dy m K c 7 rfl rfl rfl 8 7 8 rfl rfl) $$ H; iintro H
  iapply (wp_guarded c); iapply (signal_step m K c 0 1 rfl rfl (guard_iff c 0)) $$ HS; iintro HS
  iapply (wp_guarded c); iapply (signal_step m K c 1 2 rfl rfl (guard_iff c 1)) $$ HS; iintro HS
  iapply (wp_guarded c); iapply (signal_step m K c 2 3 rfl rfl (guard_iff c 2)) $$ HS; iintro HS
  iapply (wp_guarded c); iapply (signal_step m K c 3 4 rfl rfl (guard_iff c 3)) $$ HS; iintro HS
  iapply (wp_guarded c); iapply (signal_step m K c 4 5 rfl rfl (guard_iff c 4)) $$ HS; iintro HS
  iapply (wp_guarded c); iapply (signal_step m K c 5 6 rfl rfl (guard_iff c 5)) $$ HS; iintro HS
  unfold WP
  rw [wp_pure]; imodintro
  iapply Hk
  isplitl [H] <;> iassumption

/-! ## The barrier, the waits and the sums -/

theorem part6 (c : Dev nD) (Q : _ → sProp 𝕄) :
    iprop(SigSt m K c 6 ∗ cred (tallyAt (barCell c) () 7) ∗ atPos ER (barCell c) 0 ∅ 0
        ∗ bigSep Finset.univ (waitP 0 c) ∗ bigSep Finset.univ (waitP 1 c))
      ⊢ iprop(((WaitSt m K c 1 1 ∗ atPos ER (barCell c) 1 ∅ 0 ∗ bigSep Finset.univ (sigQ c)
          ∗ bigSep (Finset.univ.erase c) fun d : Dev nD => iprop(∃ f, slotPts d c f))
            -∗ Q ⟨accUpTo m c 0, k0_pay2 (loaded m 1 c 0), k0_pay3 (loaded m 0 c 0), k0_pay4 (loaded m 0 c 0)⟩)
        -∗ WP c ((bufs (k0_part6 (F := F))) c (myW c) (SemArray.scalar (sig.barrier 0 rfl)) (Scalar.cmpi .ne (myW c) 6#32)) Q) := by
  unfold WP bufs
  rw [k0_part6_eq_skeleton]
  unfold k0_part6_skel
  simp only [wp_bind]
  iintro ⟨HS, HC, HB, H0, H1⟩ Hk
  iapply (wp_guarded c); iapply (signal_step m K c 6 7 rfl rfl (guard_iff c 6)) $$ HS; iintro HS
  iapply (wp_guarded c); iapply (signal_step m K c 7 8 rfl rfl (guard_iff c 7)) $$ HS; iintro HS
  unfold SigSt
  icases HS with ⟨#HR, HO, HF⟩
  ihave HF := (Entails.of_eq (fam_all (sigP (F := F) c) (sigQ c))) $$ HF
  unfold WP
  rw [wp_bind]
  iapply (barrier_wait m K c _) $$ [HO HC HB]
  · isplitr; · iexact HR
    isplitl [HO]; · iexact HO
    isplitl [HC] <;> iassumption
  iintro ⟨HO, HB, HE⟩
  ihave H : (WaitSt m K c 0 0 : sProp 𝕄) $$ [HO H0 H1]
  · unfold WaitSt
    rw [fam_zero, fam_zero]
    isplitr; · iexact HR
    isplitl [HO]; · iexact HO
    isplitl [H0] <;> iassumption
  rw [wp_bind]
  iapply (wait_x m K c 0 rfl 0 1 0 rfl rfl rfl) $$ H; iintro H
  rw [wp_bind]
  iapply (wait_dy m K c 0 rfl 1 0 1 rfl rfl rfl) $$ H; iintro H
  rw [wp_bind]
  iapply (load_x m K c 0 1 1 (by decide)) $$ H; iintro H
  rw [wp_bind]
  iapply (load_dy m K c 0 1 1 (by decide)) $$ H; iintro H
  rw [wp_pure]; imodintro
  rw [accUpTo_zero m c]
  iapply Hk
  isplitl [H]; · iexact H
  isplitl [HB]; · iexact HB
  isplitl [HF] <;> iassumption

theorem part7 (c : Dev nD) (Q : _ → sProp 𝕄) :
    WaitSt m K c 1 1 ⊢ iprop((WaitSt m K c 2 2 -∗ Q ⟨accUpTo m c 1, k0_pay6 (loaded m 0 c 1), k0_pay7 (loaded m 1 c 1), k0_pay8 (loaded m 0 c 1)⟩)
      -∗ WP c ((bufs (k0_part7 (F := F))) c (accUpTo m c 0) (k0_pay2 (loaded m 1 c 0)) (k0_pay3 (loaded m 0 c 0)) (k0_pay4 (loaded m 0 c 0))) Q) := by
  unfold WP bufs
  rw [k0_part7_eq_skeleton]
  unfold k0_part7_skel
  simp only [wp_bind]
  iintro H Hk
  iapply (wait_x m K c 1 rfl 1 2 1 rfl rfl rfl) $$ H; iintro H
  iapply (wait_dy m K c 1 rfl 2 1 2 rfl rfl rfl) $$ H; iintro H
  iapply (load_x m K c 1 2 2 (by decide)) $$ H; iintro H
  iapply (load_dy m K c 1 2 2 (by decide)) $$ H; iintro H
  rw [wp_pure]; imodintro
  rw [add_first, accUpTo_succ m c 0 0 rfl]
  iapply Hk; iexact H

theorem part8 (c : Dev nD) (Q : _ → sProp 𝕄) :
    WaitSt m K c 2 2 ⊢ iprop((WaitSt m K c 3 3 -∗ Q ⟨accUpTo m c 2, k0_pay10 (loaded m 0 c 2), k0_pay11 (loaded m 1 c 2), k0_pay12 (loaded m 0 c 2)⟩)
      -∗ WP c ((bufs (k0_part8 (F := F))) c (accUpTo m c 1) (k0_pay6 (loaded m 0 c 1)) (k0_pay7 (loaded m 1 c 1)) (k0_pay8 (loaded m 0 c 1))) Q) := by
  unfold WP bufs
  rw [k0_part8_eq_skeleton]
  unfold k0_part8_skel
  simp only [wp_bind]
  iintro H Hk
  iapply (wait_x m K c 2 rfl 2 3 2 rfl rfl rfl) $$ H; iintro H
  iapply (wait_dy m K c 2 rfl 3 2 3 rfl rfl rfl) $$ H; iintro H
  iapply (load_x m K c 2 3 3 (by decide)) $$ H; iintro H
  iapply (load_dy m K c 2 3 3 (by decide)) $$ H; iintro H
  rw [wp_pure]; imodintro
  rw [add_second, accUpTo_succ m c 1 1 rfl]
  iapply Hk; iexact H

theorem part9 (c : Dev nD) (Q : _ → sProp 𝕄) :
    WaitSt m K c 3 3 ⊢ iprop((WaitSt m K c 4 4 -∗ Q ⟨accUpTo m c 3, k0_pay14 (loaded m 0 c 3), loaded m 1 c 3⟩)
      -∗ WP c ((bufs (k0_part9 (F := F))) c (accUpTo m c 2) (k0_pay10 (loaded m 0 c 2)) (k0_pay11 (loaded m 1 c 2)) (k0_pay12 (loaded m 0 c 2))) Q) := by
  unfold WP bufs
  rw [k0_part9_eq_skeleton]
  unfold k0_part9_skel
  simp only [wp_bind]
  iintro H Hk
  iapply (wait_x m K c 3 rfl 3 4 3 rfl rfl rfl) $$ H; iintro H
  iapply (wait_dy m K c 3 rfl 4 3 4 rfl rfl rfl) $$ H; iintro H
  iapply (load_x m K c 3 4 4 (by decide)) $$ H; iintro H
  iapply (load_dy m K c 3 4 4 (by decide)) $$ H; iintro H
  rw [wp_pure]; imodintro
  rw [add_third, accUpTo_succ m c 2 2 rfl]
  iapply Hk; iexact H

theorem part10 (c : Dev nD) (Q : _ → sProp 𝕄) :
    WaitSt m K c 4 4 ⊢ iprop((WaitSt m K c 5 5 -∗ Q ⟨accUpTo m c 4, k0_pay16 (loaded m 0 c 4)⟩)
      -∗ WP c ((bufs (k0_part10 (F := F))) c (accUpTo m c 3) (k0_pay14 (loaded m 0 c 3)) (loaded m 1 c 3)) Q) := by
  unfold WP bufs
  rw [k0_part10_eq_skeleton]
  unfold k0_part10_skel
  simp only [wp_bind]
  iintro H Hk
  iapply (wait_x m K c 4 rfl 4 5 4 rfl rfl rfl) $$ H; iintro H
  iapply (wait_dy m K c 4 rfl 5 4 5 rfl rfl rfl) $$ H; iintro H
  iapply (load_x m K c 4 5 5 (by decide)) $$ H; iintro H
  rw [wp_pure]; imodintro
  rw [add_fourth, accUpTo_succ m c 3 3 rfl]
  iapply Hk; iexact H

theorem part11 (c : Dev nD) (Q : _ → sProp 𝕄) :
    WaitSt m K c 5 5 ⊢ iprop((WaitSt m K c 6 6 -∗ Q (accUpTo m c 5))
      -∗ WP c ((bufs (k0_part11 (F := F))) c (accUpTo m c 4) (k0_pay16 (loaded m 0 c 4))) Q) := by
  unfold WP bufs
  rw [k0_part11_eq_skeleton]
  unfold k0_part11_skel
  simp only [wp_bind]
  iintro H Hk
  iapply (load_dy m K c 4 5 5 (by decide)) $$ H; iintro H
  iapply (wait_x m K c 5 rfl 5 6 5 rfl rfl rfl) $$ H; iintro H
  iapply (wait_dy m K c 5 rfl 6 5 6 rfl rfl rfl) $$ H; iintro H
  rw [wp_pure]; imodintro
  rw [add_fifth, accUpTo_succ m c 4 4 rfl]
  iapply Hk; iexact H

theorem part12 (c : Dev nD) (Q : _ → sProp 𝕄) :
    WaitSt m K c 6 6 ⊢ iprop((WaitSt m K c 7 6 -∗ Q (accUpTo m c 6))
      -∗ WP c ((bufs (k0_part12 (F := F))) c (accUpTo m c 5)) Q) := by
  unfold WP bufs
  rw [k0_part12_eq_skeleton]
  unfold k0_part12_skel
  simp only [wp_bind]
  iintro H Hk
  iapply (load_x m K c 5 6 6 (by decide)) $$ H; iintro H
  iapply (load_dy m K c 5 6 6 (by decide)) $$ H; iintro H
  iapply (wait_x m K c 6 rfl 6 7 6 rfl rfl rfl) $$ H; iintro H
  rw [wp_pure]; imodintro
  rw [add_sixth, accUpTo_succ m c 5 5 rfl]
  iapply Hk; iexact H

theorem part13 (c : Dev nD) (Q : _ → sProp 𝕄) :
    WaitSt m K c 7 6 ⊢ iprop((WaitSt m K c 8 7 -∗ Q (accUpTo m c 7))
      -∗ WP c ((bufs (k0_part13 (F := F))) c (accUpTo m c 6)) Q) := by
  unfold WP bufs
  rw [k0_part13_eq_skeleton]
  unfold k0_part13_skel
  simp only [wp_bind]
  iintro H Hk
  iapply (wait_dy m K c 6 rfl 7 6 7 rfl rfl rfl) $$ H; iintro H
  iapply (load_x m K c 6 7 7 (by decide)) $$ H; iintro H
  iapply (load_dy m K c 6 7 7 (by decide)) $$ H; iintro H
  iapply (wait_x m K c 7 rfl 7 8 7 rfl rfl rfl) $$ H; iintro H
  rw [wp_pure]; imodintro
  rw [add_seventh, accUpTo_succ m c 6 6 rfl]
  iapply Hk; iexact H

end Cert.Fused
-- ==== Proof.Exchange.lean ====
/-
# The exchange, and the body from its start to its end

The parts that send the sum, receive the others' sums, store the total and wait for the transfers; then all parts in a row.
-/
module

public import proofs.«01_k».proof.Proof.Body

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The printed conditions, offsets and semaphores -/

/-- The guard of a statement towards device `k`, computed from the mesh coordinates. -/
theorem cond_iff (c k : Fin 8) : Scalar.cmpi .ne ((Scalar.extui (Scalar.cmpi .ne
    (Scalar.addi (Scalar.addi (Scalar.muli (Scalar.remsi (Scalar.divsi (Dev.word (c : Dev nD)) 4#32) 2#32) 4#32)
      (Scalar.muli (Scalar.remsi (Scalar.divsi (Dev.word (c : Dev nD)) 2#32) 2#32) 2#32))
        (Scalar.remsi (Scalar.divsi (Dev.word (c : Dev nD)) 1#32) 2#32)) (BitVec.ofNat 32 k.val)) : BitVec 32)) 0#32 = 1#1 ↔ k ≠ c := by
  rw [word_eq]; exact guard_iff c k

theorem row_of (c : Dev nD) : 4 * (c.val / 4) + 2 * ((c.val / 2) % 2) + (c.val % 2) = c.val := by revert c; decide

/-- The slot a device sends to is its own number's. -/
theorem slot_eq (c : Dev nD) {o : Fin 3 → ℕ} (ho : o = ![4 * (c.val / 4) + 2 * ((c.val / 2) % 2) + (c.val % 2), 0, 0])
    (hin : ∀ a, o a + S1x2x2048.size a ≤ S8x2x2048.size a) :
    (recvM.slice (Rect.unit (s := S8x2x2048) o S1x2x2048.size hin) (fun _ => rfl)).squeeze S2x2048 squeezes_S1x2x2048_S2x2048 = recvS c := by
  rw [row_of] at ho; subst ho; rfl

theorem inb_sem (k : Fin 8) (a : Fin 1) : (![k.val] : Fin 1 → ℕ) a + S1.size a ≤ S8.size a := by revert k a; decide
/-- And so is the receive semaphore it signals there. -/
theorem rcv_lit : ∀ c : Dev nD, SemLoc.dma ((cc0_scratch6.slice (Rect.unit (s := S8) ![c.val] S1.size (inb_sem c))).squeeze S_ squeezes_S1_S_).sem
    = rcvS c := by decide
theorem rcv_eq (c : Dev nD) {o : Fin 1 → ℕ} (ho : o = ![4 * (c.val / 4) + 2 * ((c.val / 2) % 2) + (c.val % 2)])
    (hin : ∀ a, o a + S1.size a ≤ S8.size a) :
    SemLoc.dma ((cc0_scratch6.slice (Rect.unit (s := S8) o S1.size hin)).squeeze S_ squeezes_S1_S_).sem = rcvS c := by
  rw [row_of] at ho; subst ho; exact rcv_lit c

theorem guard_self : ∀ c : Fin 8, Scalar.cmpi .ne (myW c) (BitVec.ofNat 32 c.val) = 0#1 := by decide
/-- A choice under the guard towards device `k` looks at its first side only on the other devices. -/
theorem select_congr (c k : Fin 8) {α : Type} {a b z : α} (h : k ≠ c → a = b) :
    Scalar.select (Scalar.cmpi .ne (myW c) (BitVec.ofNat 32 k.val)) a z = Scalar.select (Scalar.cmpi .ne (myW c) (BitVec.ofNat 32 k.val)) b z := by
  by_cases hk : k = c
  · subst hk; rw [guard_self]; rfl
  · rw [h hk]

theorem pay21_congr (c : Dev nD) (t : FVec F S2x2048 .f32) {r0 r1 r2 : Vec F S1x2x2048 .f32}
    (h0 : ((0 : Fin 8)) ≠ c → r0 = received m c 0) (h1 : ((1 : Fin 8)) ≠ c → r1 = received m c 1) (h2 : ((2 : Fin 8)) ≠ c → r2 = received m c 2) :
    k0_pay21 (myW c) t r0 r1 r2 = k0_pay21 (myW c) t (received m c 0) (received m c 1) (received m c 2) := by
  exact congrArg₂ addf (congrArg₂ addf (congrArg₂ addf (rfl) (select_congr c 0 fun hk => by rw [h0 hk])) (select_congr c 1 fun hk => by rw [h1 hk])) (select_congr c 2 fun hk => by rw [h2 hk])
theorem pay22_congr (c : Dev nD) (t : FVec F S2x2048 .f32) {r3 r4 r5 : Vec F S1x2x2048 .f32}
    (h3 : ((3 : Fin 8)) ≠ c → r3 = received m c 3) (h4 : ((4 : Fin 8)) ≠ c → r4 = received m c 4) (h5 : ((5 : Fin 8)) ≠ c → r5 = received m c 5) :
    k0_pay22 (myW c) t r3 r4 r5 = k0_pay22 (myW c) t (received m c 3) (received m c 4) (received m c 5) := by
  exact congrArg₂ addf (congrArg₂ addf (congrArg₂ addf (rfl) (select_congr c 3 fun hk => by rw [h3 hk])) (select_congr c 4 fun hk => by rw [h4 hk])) (select_congr c 5 fun hk => by rw [h5 hk])
theorem pay23_congr (c : Dev nD) (t : FVec F S2x2048 .f32) {r6 r7 : Vec F S1x2x2048 .f32}
    (h6 : ((6 : Fin 8)) ≠ c → r6 = received m c 6) (h7 : ((7 : Fin 8)) ≠ c → r7 = received m c 7) :
    k0_pay23 (myW c) t r6 r7 = k0_pay23 (myW c) t (received m c 6) (received m c 7) := by
  exact congrArg₂ addf (congrArg₂ addf (rfl) (select_congr c 6 fun hk => by rw [h6 hk])) (select_congr c 7 fun hk => by rw [h7 hk])

/-! ## The two buffers of one sum: the accumulator and the result -/

abbrev tallR : Rect S2x2048 := Rect.unit (s := S2x2048) ![0, 0] S2x2048.size inb_S2x2048_S2x2048_0_0
theorem tall_zero : (![0, 0] : Fin 2 → ℕ) = fun _ => 0 := by decide

theorem tall_load (M : Memref sig .tc .vmem S2x2048 .f32) (c : Dev nD) (q : PosShare TreeShare) (f : Buf (Elt F) (M.view.loc (c : Thread nD τ)))
    {hl : M.view.LoadsAt tallR.toLoadRect} (Q : Vec F S2x2048 .f32 → sProp 𝕄) :
    (M.view.loc (c : Thread nD τ) ↦[M.view.set]{q} f : sProp 𝕄)
      ⊢ iprop(((M.view.loc (c : Thread nD τ) ↦[M.view.set]{q} f) -∗ Q (M.view.readAt (Elt F) tallR.toLoadRect f))
        -∗ WP c (Prog.lift (.load M tallR.toLoadRect hl)) Q) := by
  unfold WP
  iintro H Hk
  unfold Prog.lift
  iapply (wp_load 𝒱₀ (c : Thread nD τ) none Set.univ (View.setOn_subset_set _ _)) $$ H
  iintro H
  rw [wp_ret]; imodintro
  iapply Hk; iexact H

theorem tall_store (M : Memref sig .tc .vmem S2x2048 .f32) (c : Dev nD) (f : Buf (Elt F) (M.view.loc (c : Thread nD τ))) (w : Vec F S2x2048 .f32)
    {hx : (M.access tallR).Stores Finset.univ} {hm : (Finset.univ : Finset tallR.shape.Idx) = Finset.univ ∨ ∀ a, tallR.stride a = 1}
    (Q : PUnit → sProp 𝕄) :
    (M.view.loc (c : Thread nD τ) ↦[M.view.set]{fullShare} f : sProp 𝕄)
      ⊢ iprop(((M.view.loc (c : Thread nD τ) ↦[M.view.set]{fullShare} ((M.access tallR).write (Elt F) f w Finset.univ)) -∗ Q ⟨⟩)
        -∗ WP c (Prog.lift (.store M tallR w Finset.univ hx hm)) Q) := by
  unfold WP
  iintro H Hk
  unfold Prog.lift
  iapply (wp_store 𝒱₀ (c : Thread nD τ) none Set.univ (m := M) (r := tallR) (S := M.view.set) (Memref.setOn_access_subset _ _ _)) $$ H
  iintro H
  rw [wp_ret]; imodintro
  iapply Hk; iexact H

/-- What is kept of the accumulator while its shares are lent to the transfers. -/
def accRest (c : Dev nD) : sProp 𝕄 :=
  accM.view.loc (c : Thread nD τ) ↦[accM.view.set]{shareDrop fullShare 8} (accC m c : Buf (Elt F) (accM.view.loc (c : Thread nD τ)))
def accAny (c : Dev nD) : sProp 𝕄 := iprop(∃ f, accM.view.loc (c : Thread nD τ) ↦[accM.view.set]{fullShare} f)
def outPts (c : Dev nD) (f : Buf (Elt F) (outM.view.loc (c : Thread nD τ))) : sProp 𝕄 :=
  outM.view.loc (c : Thread nD τ) ↦[outM.view.set]{fullShare} f

theorem acc_split (c : Dev nD) (f : Buf (Elt F) (accM.view.loc (c : Thread nD τ))) :
    (accM.view.loc (c : Thread nD τ) ↦[accM.view.set]{fullShare} ((accM.access tallR).write (Elt F) f (accC m c) Finset.univ) : sProp 𝕄)
      ⊢ iprop(accRest m c ∗ bigSep Finset.univ (accPts m c)) := by
  rw [show (accM.access tallR).write (Elt F) f (accC m c) Finset.univ = accC m c from
    Memref.write_access_unit_zero_univ (Elt F) cc0_scratch2 tall_zero _ f (accC m c)]
  exact Transfers.pointsTo_toks_split fullShare 8
theorem acc_join (c : Dev nD) : iprop(accRest m c ∗ bigSep Finset.univ (accPts m c)) ⊢ (accAny (F := F) c : sProp 𝕄) := by
  unfold accAny
  iintro H
  iexists (accC m c : Buf (Elt F) (accM.view.loc (c : Thread nD τ)))
  iapply (Transfers.pointsTo_toks_join fullShare 8); iexact H

theorem rest_load (c : Dev nD) {hl : accM.view.LoadsAt tallR.toLoadRect} (Q : Vec F S2x2048 .f32 → sProp 𝕄) :
    accRest m c ⊢ iprop((accRest m c -∗ Q (accC m c)) -∗ WP c (Prog.lift (.load accM tallR.toLoadRect hl)) Q) := by
  unfold accRest
  have h := tall_load accM c (shareDrop fullShare 8) (accC m c) (hl := hl) Q
  rw [show accM.view.readAt (Elt F) tallR.toLoadRect (accC m c) = accC m c from
    Memref.readAt_unit_zero (Elt F) cc0_scratch2 tall_zero _ (accC m c)] at h
  exact h

/-! ## Sending -/

/-- The device's right to send to device `k`: `k`'s slot for it, and the duties towards both ends. -/
def sendDuty (c : Dev nD) (k : Fin 8) : sProp 𝕄 :=
  if k = c then iprop(emp) else iprop(dutyTok ER (sendCell c k) 0 c ∗ dutyTok ER (recvCell k c) 0 c)
def sendTok (c : Dev nD) (k : Fin 8) : sProp 𝕄 :=
  if k = c then iprop(emp) else iprop((∃ f, slotPts k c f) ∗ dutyTok ER (sendCell c k) 0 c ∗ dutyTok ER (recvCell k c) 0 c)
def waitDone (c : Dev nD) : sProp 𝕄 := iprop(bigSep Finset.univ (waitQ m 0 c) ∗ bigSep Finset.univ (waitQ m 1 c))

theorem send_start (c : Dev nD) : iprop(bigSep Finset.univ (accPts m c) ∗ bigSep Finset.univ (sendTok c)) ⊢ bigSep Finset.univ (sendP m c) := by
  rw [← bigSep_sep']
  exact bigSep_mono fun k _ => show iprop(accPts m c k ∗ sendTok c k) ⊢ sendP m c k from by unfold sendP sendTok; iintro H; iexact H

theorem part14 (c : Dev nD) (w : BitVec 32) (Q : PUnit → sProp 𝕄) :
    iprop(WaitSt m K c 8 7 ∗ bigSep Finset.univ (sendTok c) ∗ accAny c)
      ⊢ iprop(((waitDone m c ∗ SendSt m K c 1 ∗ accRest m c) -∗ Q ⟨⟩)
        -∗ WP c ((bufs (k0_part14 (F := F))) c w (accUpTo m c 7)) Q) := by
  unfold WP bufs
  rw [k0_part14_eq_skeleton]
  unfold k0_part14_skel
  simp only [wp_bind]
  unfold accAny
  iintro ⟨H, HT, ⟨%f, HA⟩⟩ Hk
  iapply (wait_dy m K c 7 rfl 8 7 8 rfl rfl rfl) $$ H; iintro H
  iapply (load_x m K c 7 8 8 (by decide)) $$ H; iintro H
  iapply (load_dy m K c 7 8 8 (by decide)) $$ H; iintro H
  iapply (tall_load accM c fullShare f) $$ HA; iintro HA
  rw [accUpTo_succ m c 7 7 rfl]
  iapply (tall_store accM c f (accC m c)) $$ HA; iintro HA
  ihave HA := (acc_split m c f) $$ HA
  icases HA with ⟨HA, HP⟩
  unfold WaitSt
  icases H with ⟨#HR, HO, H0, H1⟩
  ihave H0 := (Entails.of_eq (fam_all (waitP (F := F) 0 c) (waitQ m 0 c))) $$ H0
  ihave H1 := (Entails.of_eq (fam_all (waitP (F := F) 1 c) (waitQ m 1 c))) $$ H1
  ihave HS : (SendSt m K c 0 : sProp 𝕄) $$ [HO HT HP]
  · unfold SendSt
    rw [fam_zero]
    isplitr; · iexact HR
    isplitl [HO]; · iexact HO
    iapply (send_start m c)
    isplitl [HP] <;> iassumption
  iapply (wp_guarded c)
  iapply (send_step m K c 0 1 rfl rfl (cond_iff c 0) (fun h => slot_eq c (k0_off3_eq c) (k0_off3_inb c h)) rfl
    (fun h => rcv_eq c (k0_off2_eq c) (k0_off2_inb c h))) $$ HS
  iintro HS
  unfold WP
  rw [wp_pure]; imodintro
  iapply Hk
  unfold waitDone
  isplitl [H0 H1]
  · isplitl [H0] <;> iassumption
  isplitl [HS] <;> iassumption

set_option maxHeartbeats 1000000 in
theorem part15 (c : Dev nD) (Q : _ → sProp 𝕄) :
    iprop(SendSt m K c 1 ∗ accRest m c)
      ⊢ iprop(((SendSt m K c 8 ∗ accRest m c) -∗ Q ⟨accC m c, Scalar.cmpi .ne (Scalar.extui (Scalar.cmpi .ne (myW c) 0#32)) 0#32⟩) -∗ WP c ((bufs (k0_part15 (F := F))) c (myW c)) Q) := by
  unfold WP bufs
  rw [k0_part15_eq_skeleton]
  unfold k0_part15_skel
  simp only [wp_bind]
  iintro ⟨HS, HA⟩ Hk
  iapply (wp_guarded c)
  iapply (send_step m K c 1 2 rfl rfl (cond_iff c 1) (fun h => slot_eq c (k0_off5_eq c) (k0_off5_inb c h)) rfl
    (fun h => rcv_eq c (k0_off4_eq c) (k0_off4_inb c h))) $$ HS
  iintro HS
  iapply (wp_guarded c)
  iapply (send_step m K c 2 3 rfl rfl (cond_iff c 2) (fun h => slot_eq c (k0_off7_eq c) (k0_off7_inb c h)) rfl
    (fun h => rcv_eq c (k0_off6_eq c) (k0_off6_inb c h))) $$ HS
  iintro HS
  iapply (wp_guarded c)
  iapply (send_step m K c 3 4 rfl rfl (cond_iff c 3) (fun h => slot_eq c (k0_off9_eq c) (k0_off9_inb c h)) rfl
    (fun h => rcv_eq c (k0_off8_eq c) (k0_off8_inb c h))) $$ HS
  iintro HS
  iapply (wp_guarded c)
  iapply (send_step m K c 4 5 rfl rfl (cond_iff c 4) (fun h => slot_eq c (k0_off11_eq c) (k0_off11_inb c h)) rfl
    (fun h => rcv_eq c (k0_off10_eq c) (k0_off10_inb c h))) $$ HS
  iintro HS
  iapply (wp_guarded c)
  iapply (send_step m K c 5 6 rfl rfl (cond_iff c 5) (fun h => slot_eq c (k0_off13_eq c) (k0_off13_inb c h)) rfl
    (fun h => rcv_eq c (k0_off12_eq c) (k0_off12_inb c h))) $$ HS
  iintro HS
  iapply (wp_guarded c)
  iapply (send_step m K c 6 7 rfl rfl (cond_iff c 6) (fun h => slot_eq c (k0_off15_eq c) (k0_off15_inb c h)) rfl
    (fun h => rcv_eq c (k0_off14_eq c) (k0_off14_inb c h))) $$ HS
  iintro HS
  iapply (wp_guarded c)
  iapply (send_step m K c 7 8 rfl rfl (cond_iff c 7) (fun h => slot_eq c (k0_off17_eq c) (k0_off17_inb c h)) rfl
    (fun h => rcv_eq c (k0_off16_eq c) (k0_off16_inb c h))) $$ HS
  iintro HS
  unfold WP
  rw [wp_bind]
  iapply (rest_load m c) $$ HA; iintro HA
  rw [wp_pure]; imodintro
  iapply Hk
  isplitl [HS] <;> iassumption

/-! ## Receiving -/

theorem part16 (c : Dev nD) (t : FVec F S2x2048 .f32) (Q : _ → sProp 𝕄) :
    RecvSt m K c 0 ⊢ iprop((RecvSt m K c 3 -∗ Q ⟨k0_pay21 (myW c) t (received m c 0) (received m c 1) (received m c 2), Scalar.cmpi .ne (Scalar.extui (Scalar.cmpi .ne (myW c) 3#32)) 0#32⟩)
      -∗ WP c ((bufs (k0_part16 (F := F))) (myW c) t (Scalar.cmpi .ne (Scalar.extui (Scalar.cmpi .ne (myW c) 0#32)) 0#32)) Q) := by
  unfold WP bufs
  rw [k0_part16_eq_skeleton]
  unfold k0_part16_skel
  simp only [wp_bind]
  iintro H Hk
  iapply (wp_guarded c)
  iapply (recv_step m K c 0 0 1 rfl rfl (guard_iff c 0) rfl rfl) $$ H; iintro H
  unfold WP; rw [wp_bind]
  iapply (recv_load m K c 0 1 (by decide)) $$ H; iintro %r0 %h0 H
  iapply (wp_guarded c)
  iapply (recv_step m K c 1 1 2 rfl rfl (guard_iff c 1) rfl rfl) $$ H; iintro H
  unfold WP; rw [wp_bind]
  iapply (recv_load m K c 1 2 (by decide)) $$ H; iintro %r1 %h1 H
  iapply (wp_guarded c)
  iapply (recv_step m K c 2 2 3 rfl rfl (guard_iff c 2) rfl rfl) $$ H; iintro H
  unfold WP; rw [wp_bind]
  iapply (recv_load m K c 2 3 (by decide)) $$ H; iintro %r2 %h2 H
  rw [pay21_congr m c t h0 h1 h2]
  rw [wp_pure]; imodintro
  iapply Hk; iexact H

theorem part17 (c : Dev nD) (t : FVec F S2x2048 .f32) (Q : _ → sProp 𝕄) :
    RecvSt m K c 3 ⊢ iprop((RecvSt m K c 6 -∗ Q ⟨k0_pay22 (myW c) t (received m c 3) (received m c 4) (received m c 5), Scalar.cmpi .ne (Scalar.extui (Scalar.cmpi .ne (myW c) 6#32)) 0#32⟩)
      -∗ WP c ((bufs (k0_part17 (F := F))) (myW c) t (Scalar.cmpi .ne (Scalar.extui (Scalar.cmpi .ne (myW c) 3#32)) 0#32)) Q) := by
  unfold WP bufs
  rw [k0_part17_eq_skeleton]
  unfold k0_part17_skel
  simp only [wp_bind]
  iintro H Hk
  iapply (wp_guarded c)
  iapply (recv_step m K c 3 3 4 rfl rfl (guard_iff c 3) rfl rfl) $$ H; iintro H
  unfold WP; rw [wp_bind]
  iapply (recv_load m K c 3 4 (by decide)) $$ H; iintro %r3 %h3 H
  iapply (wp_guarded c)
  iapply (recv_step m K c 4 4 5 rfl rfl (guard_iff c 4) rfl rfl) $$ H; iintro H
  unfold WP; rw [wp_bind]
  iapply (recv_load m K c 4 5 (by decide)) $$ H; iintro %r4 %h4 H
  iapply (wp_guarded c)
  iapply (recv_step m K c 5 5 6 rfl rfl (guard_iff c 5) rfl rfl) $$ H; iintro H
  unfold WP; rw [wp_bind]
  iapply (recv_load m K c 5 6 (by decide)) $$ H; iintro %r5 %h5 H
  rw [pay22_congr m c t h3 h4 h5]
  rw [wp_pure]; imodintro
  iapply Hk; iexact H

/-- What device `c` stores: the sum of the eight accumulators, its own first. -/
def outC (c : Dev nD) : FVec F S2x2048 .f32 :=
  k0_pay23 (myW c) (k0_pay22 (myW c) (k0_pay21 (myW c) (accC m c) (received m c 0) (received m c 1) (received m c 2))
    (received m c 3) (received m c 4) (received m c 5)) (received m c 6) (received m c 7)

theorem out_eq (c : Dev nD) (f : Buf (Elt F) (outM.view.loc (c : Thread nD τ))) (w : Vec F S2x2048 .f32) :
    (outM.view.loc (c : Thread nD τ) ↦[outM.view.set]{fullShare} ((outM.access tallR).write (Elt F) f w Finset.univ) : sProp 𝕄)
      = outPts c w := by
  unfold outPts
  rw [show (outM.access tallR).write (Elt F) f w Finset.univ = w from Memref.write_access_unit_zero_univ (Elt F) cc0_stg0_0 tall_zero _ f w]

def recvDone (c : Dev nD) : sProp 𝕄 := bigSep Finset.univ (recvQ m c)

theorem back_start (c : Dev nD) : iprop((bigSep Finset.univ fun k : Fin 8 => atPos ER (sendCell c k) 0 ∅ 0) ∗ bigSep Finset.univ (sendQ m c))
    ⊢ bigSep Finset.univ (backP m c) := by
  rw [← bigSep_sep']
  exact bigSep_mono fun k _ => show iprop(atPos ER (sendCell c k) 0 ∅ 0 ∗ sendQ m c k) ⊢ backP m c k from by
    unfold sendQ backP; iintro H; iexact H

theorem part18 (c : Dev nD) (t : FVec F S2x2048 .f32) (Q : BitVec 32 → sProp 𝕄) :
    iprop(RecvSt m K c 6 ∗ bigSep Finset.univ (sendQ m c) ∗ (bigSep Finset.univ fun k : Fin 8 => atPos ER (sendCell c k) 0 ∅ 0)
        ∗ ∃ f, outPts c f)
      ⊢ iprop((∀ v, (recvDone m c ∗ BackSt m K c 3 ∗ outPts c (k0_pay23 (myW c) t (received m c 6) (received m c 7))) -∗ Q v)
        -∗ WP c ((bufs (k0_part18 (F := F))) c (myW c) t (Scalar.cmpi .ne (Scalar.extui (Scalar.cmpi .ne (myW c) 6#32)) 0#32)) Q) := by
  unfold WP bufs
  rw [k0_part18_eq_skeleton]
  unfold k0_part18_skel
  simp only [wp_bind]
  iintro ⟨H, HQ, HB, ⟨%f, HO⟩⟩ Hk
  iapply (wp_guarded c)
  iapply (recv_step m K c 6 6 7 rfl rfl (guard_iff c 6) rfl rfl) $$ H; iintro H
  unfold WP; rw [wp_bind]
  iapply (recv_load m K c 6 7 (by decide)) $$ H; iintro %r6 %h6 H
  iapply (wp_guarded c)
  iapply (recv_step m K c 7 7 8 rfl rfl (guard_iff c 7) rfl rfl) $$ H; iintro H
  unfold WP; rw [wp_bind]
  iapply (recv_load m K c 7 8 (by decide)) $$ H; iintro %r7 %h7 H
  unfold outPts
  rw [wp_bind]
  iapply (tall_load outM c fullShare f) $$ HO; iintro HO
  rw [wp_bind, pay23_congr m c t h6 h7]
  iapply (tall_store outM c f _) $$ HO; iintro HO
  ihave HO := (Entails.of_eq (out_eq c f _)) $$ HO
  unfold RecvSt
  icases H with ⟨#HR, HW, HF⟩
  ihave HF := (Entails.of_eq (fam_all (recvP (F := F) c) (recvQ m c))) $$ HF
  ihave HS : (BackSt m K c 0 : sProp 𝕄) $$ [HW HQ HB]
  · unfold BackSt
    rw [fam_zero]
    isplitr; · iexact HR
    isplitl [HW]; · iexact HW
    iapply (back_start m c)
    isplitl [HB] <;> iassumption
  iapply (wp_guarded c)
  iapply (back_step m K c 0 0 1 rfl rfl (cond_iff c 0) rfl) $$ HS; iintro HS
  iapply (wp_guarded c)
  iapply (back_step m K c 1 1 2 rfl rfl (cond_iff c 1) rfl) $$ HS; iintro HS
  iapply (wp_guarded c)
  iapply (back_step m K c 2 2 3 rfl rfl (cond_iff c 2) rfl) $$ HS; iintro HS
  unfold WP
  rw [wp_pure]; imodintro
  iapply Hk
  unfold recvDone
  isplitl [HF]; · iexact HF
  isplitl [HS]; · iexact HS
  unfold outPts
  iexact HO

/-! ## The whole body -/

def recvAt (c : Dev nD) (k : Fin 8) : sProp 𝕄 :=
  iprop(atPos ER (recvCell c k) 0 ∅ 0 ∗ (if k = c then iprop(emp) else cred (tallyAt (recvCell c k) () Nr)))

/-- What the body starts from. -/
def BodyPre (c : Dev nD) : sProp 𝕄 :=
  iprop(records m K ∗ ow c 0 0 ∗ bigSep Finset.univ (copyP m 0 c) ∗ bigSep Finset.univ (copyP m 1 c) ∗ bigSep Finset.univ (sigP c)
    ∗ cred (tallyAt (barCell c) () 7) ∗ atPos ER (barCell c) 0 ∅ 0
    ∗ (bigSep Finset.univ fun j : Fin 8 => atPos ER (copyCell c 0 j) 0 ∅ 0) ∗ (bigSep Finset.univ fun j : Fin 8 => atPos ER (copyCell c 1 j) 0 ∅ 0)
    ∗ bigSep Finset.univ (sendDuty c) ∗ bigSep Finset.univ (recvAt c)
    ∗ (bigSep Finset.univ fun k : Fin 8 => atPos ER (sendCell c k) 0 ∅ 0) ∗ accAny c ∗ ∃ f, outPts c f)
/-- And what it ends in. -/
def BodyPost (c : Dev nD) : sProp 𝕄 :=
  iprop(ow c 8 8 ∗ atPos ER (barCell c) 1 ∅ 0 ∗ waitDone m c ∗ recvDone m c ∗ bigSep Finset.univ (backQ m c) ∗ accRest m c
    ∗ outPts c (outC m c))

theorem wait_start (a : Fin 2) (c : Dev nD) :
    iprop(bigSep Finset.univ (copyQ a c) ∗ bigSep Finset.univ fun j : Fin 8 => atPos ER (copyCell c a j) 0 ∅ 0)
      ⊢ (bigSep Finset.univ (waitP (F := F) a c) : sProp 𝕄) := by
  rw [← bigSep_sep']
  exact bigSep_mono fun j _ => show iprop(copyQ a c j ∗ atPos ER (copyCell c a j) 0 ∅ 0) ⊢ (waitP a c j : sProp 𝕄) from by
    unfold waitP copyQ; iintro H; iexact H

theorem send_tokens (c : Dev nD) :
    iprop((bigSep (Finset.univ.erase c) fun d : Dev nD => iprop(∃ f, slotPts d c f)) ∗ bigSep Finset.univ (sendDuty c))
      ⊢ (bigSep Finset.univ (sendTok (F := F) c) : sProp 𝕄) := by
  rw [bigSep_univ_at (sendDuty c) c, bigSep_univ_at (sendTok c) c,
    show sendTok (F := F) c c = iprop(emp) from if_pos rfl, show sendDuty (F := F) c c = iprop(emp) from if_pos rfl]
  have h : iprop((bigSep (Finset.univ.erase c) fun d : Dev nD => iprop(∃ f, slotPts d c f)) ∗ bigSep (Finset.univ.erase c) (sendDuty c))
      ⊢ (bigSep (Finset.univ.erase c) (sendTok (F := F) c) : sProp 𝕄) := by
    rw [← bigSep_sep']
    exact bigSep_mono fun k hk => show iprop((∃ f, slotPts k c f) ∗ sendDuty c k) ⊢ (sendTok c k : sProp 𝕄) from by
      have hk' : k ≠ c := Finset.ne_of_mem_erase hk
      unfold sendTok sendDuty
      rw [if_neg hk', if_neg hk']
  iintro ⟨H0, -, H1⟩
  isplitr; · iempintro
  iapply h
  isplitl [H0] <;> iassumption

theorem recv_start (c : Dev nD) :
    iprop(bigSep Finset.univ (recvAt c) ∗ bigSep Finset.univ (sigQ c)) ⊢ (bigSep Finset.univ (recvP (F := F) c) : sProp 𝕄) := by
  rw [← bigSep_sep']
  refine bigSep_mono fun k _ => show iprop(recvAt c k ∗ sigQ c k) ⊢ (recvP c k : sProp 𝕄) from ?_
  unfold recvAt sigQ recvP
  by_cases hk : k = c
  · subst hk
    rw [if_pos rfl, if_pos rfl, if_pos rfl]
    iintro ⟨⟨HA, -⟩, HS⟩
    isplitl [HA] <;> iassumption
  · rw [if_neg hk, if_neg hk, if_neg hk]
    iintro ⟨H, -⟩
    iexact H

set_option maxHeartbeats 1000000 in
theorem body_run (c : Dev nD) (Q : PUnit → sProp 𝕄) :
    BodyPre m K c ⊢ iprop((BodyPost m c -∗ Q ⟨⟩) -∗ WP c (bufs (cc0_body (F := F))) Q) := by
  unfold WP bufs
  rw [cc0_body_eq_skeleton]
  unfold cc0_body_skel
  unfold BodyPre
  iintro ⟨#HR, HO, HC0, HC1, HS, HC, HA, HW0, HW1, HD, HV, HB, Hacc, Hout⟩ Hk
  rw [wp_bind]; iapply (part1 c); iintro %v %w
  ihave H : (CopySt m K c 0 0 : sProp 𝕄) $$ [HC0 HC1]
  · unfold CopySt
    rw [fam_zero, fam_zero]
    isplitr; · iexact HR
    isplitl [HC0] <;> iassumption
  ihave HS : (SigSt m K c 0 : sProp 𝕄) $$ [HO HS]
  · unfold SigSt
    rw [fam_zero]
    isplitr; · iexact HR
    isplitl [HO] <;> iassumption
  rw [wp_bind]; iapply (part2 m K c) $$ H; iintro H
  rw [wp_bind]; iapply (part3 m K c) $$ H; iintro H
  rw [wp_bind]; iapply (part4 m K c) $$ H; iintro H
  rw [wp_bind]; iapply (part5 m K c) $$ [H HS]
  · isplitl [H] <;> iassumption
  iintro ⟨H, HS⟩
  unfold CopySt
  icases H with ⟨-, HC0, HC1⟩
  ihave HC0 := (Entails.of_eq (fam_all (copyP m 0 c) (copyQ 0 c))) $$ HC0
  ihave HC1 := (Entails.of_eq (fam_all (copyP m 1 c) (copyQ 1 c))) $$ HC1
  rw [wp_bind]; iapply (part6 m K c) $$ [HS HC HA HC0 HC1 HW0 HW1]
  · isplitl [HS]; · iexact HS
    isplitl [HC]; · iexact HC
    isplitl [HA]; · iexact HA
    isplitl [HC0 HW0]
    · iapply (wait_start 0 c); isplitl [HC0] <;> iassumption
    · iapply (wait_start 1 c); isplitl [HC1] <;> iassumption
  iintro ⟨H, HA, HF, HE⟩
  rw [wp_bind]; iapply (part7 m K c) $$ H; iintro H
  rw [wp_bind]; iapply (part8 m K c) $$ H; iintro H
  rw [wp_bind]; iapply (part9 m K c) $$ H; iintro H
  rw [wp_bind]; iapply (part10 m K c) $$ H; iintro H
  rw [wp_bind]; iapply (part11 m K c) $$ H; iintro H
  rw [wp_bind]; iapply (part12 m K c) $$ H; iintro H
  rw [wp_bind]; iapply (part13 m K c) $$ H; iintro H
  rw [wp_bind]; iapply (part14 m K c) $$ [H HE HD Hacc]
  · isplitl [H]; · iexact H
    isplitl [HE HD]
    · iapply (send_tokens c); isplitl [HE] <;> iassumption
    · iexact Hacc
  iintro ⟨HW, HS, Hacc⟩
  rw [wp_bind]; iapply (part15 m K c) $$ [HS Hacc]
  · isplitl [HS] <;> iassumption
  iintro ⟨HS, Hacc⟩
  unfold SendSt
  icases HS with ⟨-, HO, HS⟩
  ihave HS := (Entails.of_eq (fam_all (sendP m c) (sendQ m c))) $$ HS
  ihave H : (RecvSt m K c 0 : sProp 𝕄) $$ [HO HV HF]
  · unfold RecvSt
    rw [fam_zero]
    isplitr; · iexact HR
    isplitl [HO]; · iexact HO
    iapply (recv_start c)
    isplitl [HV] <;> iassumption
  rw [wp_bind]; iapply (part16 m K c) $$ H; iintro H
  rw [wp_bind]; iapply (part17 m K c) $$ H; iintro H
  rw [wp_bind]; iapply (part18 m K c) $$ [H HS HB Hout]
  · isplitl [H]; · iexact H
    isplitl [HS]; · iexact HS
    isplitl [HB] <;> iassumption
  iintro %u ⟨HV, HB, Hout⟩
  iapply (wp_guarded c)
  iapply (back_step m K c 3 3 4 rfl rfl (cond_iff c 3) rfl) $$ HB; iintro HB
  iapply (wp_guarded c)
  iapply (back_step m K c 4 4 5 rfl rfl (cond_iff c 4) rfl) $$ HB; iintro HB
  iapply (wp_guarded c)
  iapply (back_step m K c 5 5 6 rfl rfl (cond_iff c 5) rfl) $$ HB; iintro HB
  iapply (wp_guarded c)
  iapply (back_step m K c 6 6 7 rfl rfl (cond_iff c 6) rfl) $$ HB; iintro HB
  iapply (wp_guarded c)
  iapply (back_step m K c 7 7 8 rfl rfl (cond_iff c 7) rfl) $$ HB; iintro HB
  unfold WP
  rw [wp_pure]; imodintro
  iapply Hk
  unfold BodyPost BackSt
  icases HB with ⟨-, HO, HB⟩
  ihave HB := (Entails.of_eq (fam_all (backP m c) (backQ m c))) $$ HB
  isplitl [HO]; · iexact HO
  isplitl [HA]; · iexact HA
  isplitl [HW]; · iexact HW
  isplitl [HV]; · iexact HV
  isplitl [HB]; · iexact HB
  isplitl [Hacc]; · iexact Hacc
  iexact Hout

end Cert.Fused
-- ==== Proof.Whole.lean ====
/-
# From whole buffers to what the body starts from, and back

The launch hands a device its inputs and local buffers whole. The body takes the inputs chunk by chunk, each chunk at a share
of its own, the chunk buffers and the receive buffer slot by slot. At the end the pieces are put together again, and the
cells, all done with their one round, give their counters back at zero.
-/
module

public import proofs.«01_k».proof.Proof.Exchange

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ)

/-! ## The inputs -/

/-- What is kept of input `a` while chunk `j` is lent at its share, -/
def chunkRest (a : Fin 2) (c : Dev nD) (j : Fin 8) : sProp 𝕄 :=
  (srcM a).view.loc (c : Thread nD τ) ↦[Finset.univ \ (chunkM a c j).view.set]{shareTok fullShare 8 j} srcC m a c
/-- and of the whole input. -/
def inRest (a : Fin 2) (c : Dev nD) : sProp 𝕄 :=
  iprop(((srcM a).view.loc (c : Thread nD τ) ↦{shareDrop fullShare 8} srcC m a c) ∗ bigSep Finset.univ (chunkRest m a c))
def inPts (a : Fin 2) (c : Dev nD) : sProp 𝕄 := (srcM a).view.loc (c : Thread nD τ) ↦{fullShare} srcC m a c

theorem chunk_cut (a : Fin 2) (c : Dev nD) (j : Fin 8) :
    ((srcM a).view.loc (c : Thread nD τ) ↦{shareTok fullShare 8 j} srcC m a c : sProp 𝕄) ⊣⊢ iprop(chunkPts m a c j ∗ chunkRest m a c j) := by
  unfold chunkPts chunkRest
  exact pointsTo_split_subset (Finset.subset_univ _)

theorem chunks_cut (a : Fin 2) (c : Dev nD) :
    (bigSep Finset.univ fun j : Fin 8 => ((srcM a).view.loc (c : Thread nD τ) ↦{shareTok fullShare 8 j} srcC m a c : sProp 𝕄))
      ⊣⊢ iprop(bigSep Finset.univ (chunkPts m a c) ∗ bigSep Finset.univ (chunkRest m a c)) := by
  rw [← bigSep_sep']
  exact ⟨bigSep_mono fun j _ => (chunk_cut m a c j).1, bigSep_mono fun j _ => (chunk_cut m a c j).2⟩

theorem in_split (a : Fin 2) (c : Dev nD) : inPts m a c ⊢ iprop(bigSep Finset.univ (chunkPts m a c) ∗ inRest m a c) := by
  unfold inPts inRest
  iintro H
  ihave H := (Transfers.pointsTo_toks_split fullShare 8) $$ H
  icases H with ⟨HD, HT⟩
  ihave HT := (chunks_cut m a c).1 $$ HT
  icases HT with ⟨H1, H2⟩
  isplitl [H1]; · iexact H1
  isplitl [HD] <;> iassumption
theorem in_join (a : Fin 2) (c : Dev nD) : iprop(bigSep Finset.univ (chunkPts m a c) ∗ inRest m a c) ⊢ inPts m a c := by
  unfold inPts inRest
  iintro ⟨H1, HD, H2⟩
  iapply (Transfers.pointsTo_toks_join fullShare 8)
  isplitl [HD]; · iexact HD
  iapply (chunks_cut m a c).2
  isplitl [H1] <;> iassumption

/-! ## The buffers of slots -/

section Slots

variable {sp : Space} {s : Shape} {e : EltTy} (M : Memref sig .tc sp s e) (R : Fin 8 → Rect s)

theorem slots_disjoint (hd : ∀ b b', b ≠ b' → Disjoint (R b).set (R b').set) (b b' : Fin 8) (h : b ≠ b') :
    Disjoint (M.access (R b)).set (M.access (R b')).set := by
  rw [show (M.access (R b)).set = _ from View.set_slice M.view (R b), show (M.access (R b')).set = _ from View.set_slice M.view (R b')]
  exact (Finset.disjoint_map _).mpr (hd b b' h)
theorem slots_cover (hM : M.view.set = Finset.univ) (hc : Finset.univ.biUnion (fun b => (R b).set) = Finset.univ) :
    (Finset.univ.biUnion (fun b => ((M.access (R b)).set : Finset M.view.ty.Idx)) : Finset M.view.ty.Idx) = Finset.univ := by
  rw [Finset.eq_univ_iff_forall]
  intro i
  have hi : i ∈ M.view.set := hM ▸ Finset.mem_univ i
  unfold View.set at hi
  obtain ⟨p, -, rfl⟩ := Finset.mem_map.mp hi
  have hp : p ∈ Finset.univ.biUnion (fun b => (R b).set) := hc ▸ Finset.mem_univ p
  obtain ⟨b, -, hb⟩ := Finset.mem_biUnion.mp hp
  refine Finset.mem_biUnion.mpr ⟨b, Finset.mem_univ b, ?_⟩
  rw [show (M.access (R b)).set = _ from View.set_slice M.view (R b)]
  exact Finset.mem_map_of_mem _ hb

variable (hM : M.view.set = Finset.univ) (hd : ∀ b b', b ≠ b' → Disjoint (R b).set (R b').set)
  (hc : Finset.univ.biUnion (fun b => (R b).set) = Finset.univ)
include hM hd hc

theorem slots_split (c : Dev nD) (f : Buf (Elt F) (M.view.loc (c : Thread nD τ))) :
    (M.view.loc (c : Thread nD τ) ↦{fullShare} f : sProp 𝕄)
      ⊢ bigSep Finset.univ fun b => iprop(∃ f, M.view.loc (c : Thread nD τ) ↦[(M.access (R b)).set]{fullShare} f) := by
  rw [Ring.pointsTo_blocks (fun b => (M.access (R b)).set) (slots_disjoint M R hd) (slots_cover M R hM hc) f]
  refine bigSep_mono fun b _ => ?_
  show (M.view.loc (c : Thread nD τ) ↦[(M.access (R b)).set]{fullShare} f : sProp 𝕄) ⊢ iprop(∃ f, M.view.loc (c : Thread nD τ) ↦[(M.access (R b)).set]{fullShare} f)
  iintro H; iexists f; iexact H
theorem slots_join (c : Dev nD) (f : Buf (Elt F) (M.view.loc (c : Thread nD τ))) :
    (bigSep Finset.univ fun b => iprop(∃ f, M.view.loc (c : Thread nD τ) ↦[(M.access (R b)).set]{fullShare} f))
      ⊢ (iprop(∃ f, M.view.loc (c : Thread nD τ) ↦{fullShare} f) : sProp 𝕄) :=
  Ring.pointsTo_blocks_join_exists (Val := Elt F) (ℓ := M.view.loc (c : Thread nD τ)) (B := Fin 8) (q := fullShare) (fun b => (M.access (R b)).set)
    (slots_disjoint M R hd) (slots_cover M R hM hc) f

end Slots

theorem land_disjoint (b b' : Fin 8) (h : b ≠ b') : Disjoint (landR b).set (landR b').set :=
  Ring.lead_disjoint (s := S8x128x2048) (0 : Fin 3) 1 (fun j : Fin 8 => ![j.val, 0, 0]) S1x128x2048.size inb_land (by decide) rfl b b' h
theorem land_cover : Finset.univ.biUnion (fun b => (landR b).set) = Finset.univ :=
  Ring.lead_cover (s := S8x128x2048) (0 : Fin 3) 1 (fun j : Fin 8 => ![j.val, 0, 0]) S1x128x2048.size inb_land (by decide) (by decide) rfl (by decide) rfl
theorem recv_disjoint (b b' : Fin 8) (h : b ≠ b') : Disjoint (recvR b).set (recvR b').set :=
  Ring.lead_disjoint (s := S8x2x2048) (0 : Fin 3) 1 (fun j : Fin 8 => ![j.val, 0, 0]) S1x2x2048.size inb_recv (by decide) rfl b b' h
theorem recv_cover : Finset.univ.biUnion (fun b => (recvR b).set) = Finset.univ :=
  Ring.lead_cover (s := S8x2x2048) (0 : Fin 3) 1 (fun j : Fin 8 => ![j.val, 0, 0]) S1x2x2048.size inb_recv (by decide) (by decide) rfl (by decide) rfl

theorem land_whole : ∀ a : Fin 2, (landM a).view.set = Finset.univ
  | 0 => View.set_whole _
  | 1 => View.set_whole _

def landAny (a : Fin 2) (c : Dev nD) : sProp 𝕄 := iprop(∃ f, (landM a).view.loc (c : Thread nD τ) ↦{fullShare} f)
def slotAny (c : Dev nD) : sProp 𝕄 := iprop(∃ f, recvM.view.loc (c : Thread nD τ) ↦{fullShare} f)

theorem land_pts (a : Fin 2) (c : Dev nD) (j : Fin 8) :
    (iprop(∃ f, (landM a).view.loc (c : Thread nD τ) ↦[((landM a).access (landR j)).set]{fullShare} f) : sProp 𝕄) = iprop(∃ f, landPts a c j f) := by
  rw [land_access_set]; rfl
theorem slot_pts (c : Dev nD) (k : Fin 8) :
    (iprop(∃ f, recvM.view.loc (c : Thread nD τ) ↦[(recvM.access (recvR k)).set]{fullShare} f) : sProp 𝕄) = iprop(∃ f, slotPts c k f) := by
  rw [recv_access_set]; rfl

theorem land_split (a : Fin 2) (c : Dev nD) : landAny a c ⊢ (bigSep Finset.univ fun j => iprop(∃ f, landPts a c j f) : sProp 𝕄) := by
  unfold landAny
  iintro ⟨%f, H⟩
  ihave H := (slots_split (landM a) landR (land_whole a) land_disjoint land_cover c f) $$ H
  iapply (Entails.of_eq (bigSep_congr fun j _ => land_pts a c j)); iexact H
include m in
theorem land_join (a : Fin 2) (c : Dev nD) : (bigSep Finset.univ fun j => iprop(∃ f, landPts a c j f)) ⊢ (landAny a c : sProp 𝕄) := by
  unfold landAny
  rw [← bigSep_congr fun j _ => land_pts a c j]
  exact slots_join (landM a) landR (land_whole a) land_disjoint land_cover c (m _)
theorem slot_split (c : Dev nD) : slotAny c ⊢ (bigSep Finset.univ fun k => iprop(∃ f, slotPts c k f) : sProp 𝕄) := by
  unfold slotAny
  iintro ⟨%f, H⟩
  ihave H := (slots_split recvM recvR (View.set_whole _) recv_disjoint recv_cover c f) $$ H
  iapply (Entails.of_eq (bigSep_congr fun k _ => slot_pts c k)); iexact H
include m in
theorem slot_join (c : Dev nD) : (bigSep Finset.univ fun k => iprop(∃ f, slotPts c k f)) ⊢ (slotAny c : sProp 𝕄) := by
  unfold slotAny
  rw [← bigSep_congr fun k _ => slot_pts c k]
  exact slots_join recvM recvR (View.set_whole _) recv_disjoint recv_cover c (m _)

/-! ## Closing the cells -/

theorem close (ck : Dev nD × Kd) (R : ℕ) (hR : ∀ r, R ≤ r → (fusedRd m).duties (cellAt ck) r = ∅) :
    iprop(records m K ∗ atPos ER (cellAt ck) R ∅ 0) ⊢ |={Set.univ}=> (semVal (cellAt ck) 0 : sProp 𝕄) := by
  iintro ⟨#HR, H⟩
  iapply (Rounds.cell_close ER (fusedRd m) (Set.mem_univ (K ck)) (fun h => h) (R := R) hR)
  isplitr; · iapply (rec_inv m K ck); iexact HR
  iexact H

theorem close_fam {I : Type} [Fintype I] [DecidableEq I] (ck : I → Dev nD × Kd) (R : I → ℕ)
    (hR : ∀ i r, R i ≤ r → (fusedRd m).duties (cellAt (ck i)) r = ∅) :
    iprop(records m K ∗ bigSep Finset.univ fun i => atPos ER (cellAt (ck i)) (R i) ∅ 0)
      ⊢ |={Set.univ}=> (bigSep Finset.univ fun i => semVal (cellAt (ck i)) 0 : sProp 𝕄) :=
  (bigSep_with_persistent fun i _ => close m K (ck i) (R i) (hR i)).trans (bigSep_fupd _ _)

theorem later_one (ck : Dev nD × Kd) (r : ℕ) (h : 1 ≤ r) : (fusedRd m).duties (cellAt ck) r = ∅ := duties_later m _ r h
theorem later_self (c k : Fin 8) (x : Kd) (hx : k = c → payers c (some x) = ∅) (r : ℕ) (h : (if k = c then 0 else 1) ≤ r) :
    (fusedRd m).duties (cellAt ((c : Dev nD), x)) r = ∅ := by
  by_cases hk : k = c
  · exact duties_self m c x (hx hk) r
  · rw [if_neg hk] at h; exact duties_later m _ r h

/-! ## The body from whole buffers to whole buffers -/

/-- A device's positions at its cells, and the duties it pays. -/
def posAt (c : Dev nD) : sProp 𝕄 :=
  iprop(atPos ER (barCell c) 0 ∅ 0
    ∗ (bigSep Finset.univ fun j : Fin 8 => atPos ER (copyCell c 0 j) 0 ∅ 0) ∗ (bigSep Finset.univ fun j : Fin 8 => atPos ER (copyCell c 1 j) 0 ∅ 0)
    ∗ (bigSep Finset.univ fun k : Fin 8 => atPos ER (sendCell c k) 0 ∅ 0) ∗ (bigSep Finset.univ fun k : Fin 8 => atPos ER (recvCell c k) 0 ∅ 0))
def sigDuty (c : Dev nD) (k : Fin 8) : sProp 𝕄 := if k = c then iprop(emp) else dutyTok ER (barCell k) 0 c
def payAt (c : Dev nD) : sProp 𝕄 :=
  iprop(bigSep Finset.univ (sigDuty c)
    ∗ (bigSep Finset.univ fun j : Fin 8 => dutyTok ER (copyCell c 0 j) 0 c) ∗ (bigSep Finset.univ fun j : Fin 8 => dutyTok ER (copyCell c 1 j) 0 c)
    ∗ bigSep Finset.univ (sendDuty c))
def recvCred (c : Dev nD) (k : Fin 8) : sProp 𝕄 := if k = c then iprop(emp) else cred (tallyAt (recvCell c k) () Nr)

/-- The local buffers, at whatever they hold. -/
def localAny (c : Dev nD) : sProp 𝕄 := iprop(landAny 0 c ∗ landAny 1 c ∗ accAny c ∗ slotAny c)

def Start (c : Dev nD) : sProp 𝕄 :=
  iprop(records m K ∗ ow c 0 0 ∗ posAt c ∗ payAt c ∗ cred (tallyAt (barCell c) () 7) ∗ bigSep Finset.univ (recvCred c)
    ∗ inPts m 0 c ∗ inPts m 1 c ∗ localAny c ∗ ∃ f, outPts c f)

/-- The counters of a device's cells at zero. -/
def zeros (c : Dev nD) : sProp 𝕄 := bigSep Finset.univ fun k : Kd => semVal (cellAt (c, k)) 0

def Final (c : Dev nD) : sProp 𝕄 :=
  iprop(ow c 8 8 ∗ zeros c ∗ inPts m 0 c ∗ inPts m 1 c ∗ localAny c ∗ outPts c (outC m c))

theorem copy_start (a : Fin 2) (c : Dev nD) :
    iprop((bigSep Finset.univ fun j => iprop(∃ f, landPts a c j f)) ∗ bigSep Finset.univ (chunkPts m a c)
        ∗ bigSep Finset.univ fun j : Fin 8 => dutyTok ER (copyCell c a j) 0 c)
      ⊢ bigSep Finset.univ (copyP m a c) := by
  rw [← bigSep_sep', ← bigSep_sep']
  exact bigSep_mono fun j _ => show _ ⊢ copyP m a c j from by unfold copyP; iintro H; iexact H
theorem sig_start (c : Dev nD) :
    iprop((bigSep Finset.univ fun k => iprop(∃ f, slotPts c k f)) ∗ bigSep Finset.univ (sigDuty c)) ⊢ (bigSep Finset.univ (sigP c) : sProp 𝕄) := by
  rw [← bigSep_sep']
  exact bigSep_mono fun k _ => show iprop((∃ f, slotPts c k f) ∗ sigDuty c k) ⊢ (sigP c k : sProp 𝕄) from by unfold sigP sigDuty; iintro H; iexact H
theorem recv_at (c : Dev nD) :
    iprop((bigSep Finset.univ fun k : Fin 8 => atPos ER (recvCell c k) 0 ∅ 0) ∗ bigSep Finset.univ (recvCred c))
      ⊢ (bigSep Finset.univ (recvAt c) : sProp 𝕄) := by
  rw [← bigSep_sep']
  exact bigSep_mono fun k _ => show iprop(atPos ER (recvCell c k) 0 ∅ 0 ∗ recvCred c k) ⊢ (recvAt c k : sProp 𝕄) from by
    unfold recvAt recvCred; iintro H; iexact H

theorem start_body (c : Dev nD) : Start m K c ⊢ iprop(BodyPre m K c ∗ inRest m 0 c ∗ inRest m 1 c) := by
  unfold Start BodyPre posAt payAt localAny
  iintro ⟨HR, HO, ⟨HA, HC0, HC1, HS, HV⟩, ⟨HDB, HD0, HD1, HDS⟩, HCB, HCV, HI0, HI1, ⟨HL0, HL1, HAcc, HSl⟩, HOut⟩
  ihave HI0 := (in_split m 0 c) $$ HI0
  icases HI0 with ⟨HI0, HR0⟩
  ihave HI1 := (in_split m 1 c) $$ HI1
  icases HI1 with ⟨HI1, HR1⟩
  ihave HL0 := (land_split 0 c) $$ HL0
  ihave HL1 := (land_split 1 c) $$ HL1
  ihave HSl := (slot_split c) $$ HSl
  isplitr [HR0 HR1]
  · isplitl [HR]; · iexact HR
    isplitl [HO]; · iexact HO
    isplitl [HL0 HI0 HD0]
    · iapply (copy_start m 0 c)
      isplitl [HL0]; · iexact HL0
      isplitl [HI0] <;> iassumption
    isplitl [HL1 HI1 HD1]
    · iapply (copy_start m 1 c)
      isplitl [HL1]; · iexact HL1
      isplitl [HI1] <;> iassumption
    isplitl [HSl HDB]
    · iapply (sig_start c); isplitl [HSl] <;> iassumption
    isplitl [HCB]; · iexact HCB
    isplitl [HA]; · iexact HA
    isplitl [HC0]; · iexact HC0
    isplitl [HC1]; · iexact HC1
    isplitl [HDS]; · iexact HDS
    isplitl [HV HCV]
    · iapply (recv_at c); isplitl [HV] <;> iassumption
    isplitl [HS]; · iexact HS
    isplitl [HAcc] <;> iassumption
  · isplitl [HR0] <;> iassumption

theorem copy_end (a : Fin 2) (c : Dev nD) :
    bigSep Finset.univ (waitQ m a c) ⊢ iprop(landAny a c ∗ bigSep Finset.univ (chunkPts m a c)
      ∗ bigSep Finset.univ fun j : Fin 8 => atPos ER (copyCell c a j) 1 ∅ 0) := by
  have h : bigSep Finset.univ (waitQ m a c) ⊢ iprop((bigSep Finset.univ fun j => iprop(∃ f, landPts a c j f)) ∗ bigSep Finset.univ (chunkPts m a c)
      ∗ bigSep Finset.univ fun j : Fin 8 => atPos ER (copyCell c a j) 1 ∅ 0) := by
    rw [← bigSep_sep', ← bigSep_sep']
    exact bigSep_mono fun j _ => show waitQ m a c j ⊢ iprop((∃ f, landPts a c j f) ∗ chunkPts m a c j ∗ atPos ER (copyCell c a j) 1 ∅ 0) from by
      unfold waitQ
      iintro ⟨HL, H⟩
      isplitl [HL]; · iexists _; iexact HL
      iexact H
  exact h.trans (sep_mono_left (land_join m a c))
theorem recv_end (c : Dev nD) :
    bigSep Finset.univ (recvQ m c) ⊢ iprop(slotAny c ∗ bigSep Finset.univ fun k : Fin 8 => atPos ER (recvCell c k) (if k = c then 0 else 1) ∅ 0) := by
  have h : bigSep Finset.univ (recvQ m c) ⊢ iprop((bigSep Finset.univ fun k => iprop(∃ f, slotPts c k f))
      ∗ bigSep Finset.univ fun k : Fin 8 => atPos ER (recvCell c k) (if k = c then 0 else 1) ∅ 0) := by
    rw [← bigSep_sep']
    refine bigSep_mono fun k _ => show recvQ m c k ⊢ iprop((∃ f, slotPts c k f) ∗ atPos ER (recvCell c k) (if k = c then 0 else 1) ∅ 0) from ?_
    unfold recvQ
    by_cases hk : k = c
    · rw [if_pos hk, if_pos hk]
      iintro ⟨HA, HS⟩
      isplitl [HS] <;> iassumption
    · rw [if_neg hk, if_neg hk]
      iintro ⟨HA, HS⟩
      isplitl [HS]; · iexists _; iexact HS
      iexact HA
  exact h.trans (sep_mono_left (slot_join m c))
theorem back_end (c : Dev nD) :
    bigSep Finset.univ (backQ m c) ⊢ iprop((bigSep Finset.univ fun k : Fin 8 => atPos ER (sendCell c k) (if k = c then 0 else 1) ∅ 0)
      ∗ bigSep Finset.univ (accPts m c)) := by
  rw [← bigSep_sep']
  exact bigSep_mono fun k _ => show backQ m c k ⊢ iprop(atPos ER (sendCell c k) (if k = c then 0 else 1) ∅ 0 ∗ accPts m c k) from by
    unfold backQ; iintro H; iexact H

/-- A family over a device's cells, kind by kind. -/
theorem kinds_eq (Φ : Kd → sProp 𝕄) : bigSep Finset.univ Φ = iprop(Φ (.inl ())
    ∗ (((bigSep Finset.univ fun j : Fin 8 => Φ (.inr (.inl (0, j)))) ∗ bigSep Finset.univ fun j : Fin 8 => Φ (.inr (.inl (1, j))))
      ∗ (bigSep Finset.univ fun k : Fin 8 => Φ (.inr (.inr (.inl k)))) ∗ bigSep Finset.univ fun k : Fin 8 => Φ (.inr (.inr (.inr k))))) := by
  have h2 (Φ : Fin 2 → sProp 𝕄) : bigSep Finset.univ Φ = iprop(Φ 0 ∗ Φ 1) := bigSep_univ_eq_bigSepL [0, 1] (by decide) (by decide) Φ
  have h1 (Φ : Unit → sProp 𝕄) : bigSep Finset.univ Φ = Φ () := bigSep_univ_eq_bigSepL [()] (by decide) (by decide) Φ
  rw [bigSep_univ_sum, bigSep_univ_sum, bigSep_univ_sum, bigSep_univ_prod, h1, h2]
  rfl

theorem body_final (c : Dev nD) : iprop(records m K ∗ BodyPost m c ∗ inRest m 0 c ∗ inRest m 1 c) ⊢ |={Set.univ}=> Final m c := by
  unfold BodyPost Final localAny waitDone recvDone
  iintro ⟨#HR, ⟨HO, HA, ⟨HW0, HW1⟩, HV, HB, Hacc, Hout⟩, HR0, HR1⟩
  ihave HW0 := (copy_end m 0 c) $$ HW0
  icases HW0 with ⟨HL0, HI0, HC0⟩
  ihave HW1 := (copy_end m 1 c) $$ HW1
  icases HW1 with ⟨HL1, HI1, HC1⟩
  ihave HV := (recv_end m c) $$ HV
  icases HV with ⟨HSl, HV⟩
  ihave HB := (back_end m c) $$ HB
  icases HB with ⟨HS, HB⟩
  imod (close m K (c, .inl ()) 1 (later_one m _)) $$ [HA] with HA
  · isplitr; · iexact HR
    iexact HA
  imod (close_fam m K (fun j : Fin 8 => (c, .inr (.inl (0, j)))) (fun _ => 1) (fun j => later_one m _)) $$ [HC0] with HC0
  · isplitr; · iexact HR
    iexact HC0
  imod (close_fam m K (fun j : Fin 8 => (c, .inr (.inl (1, j)))) (fun _ => 1) (fun j => later_one m _)) $$ [HC1] with HC1
  · isplitr; · iexact HR
    iexact HC1
  imod (close_fam m K (fun k : Fin 8 => (c, .inr (.inr (.inl k)))) (fun k => if k = c then 0 else 1)
    (fun k => later_self m c k _ fun h => if_pos h)) $$ [HS] with HS
  · isplitr; · iexact HR
    iexact HS
  imod (close_fam m K (fun k : Fin 8 => (c, .inr (.inr (.inr k)))) (fun k => if k = c then 0 else 1)
    (fun k => later_self m c k _ fun h => if_pos h)) $$ [HV] with HV
  · isplitr; · iexact HR
    iexact HV
  imodintro
  isplitl [HO]; · iexact HO
  isplitl [HA HC0 HC1 HS HV]
  · unfold zeros; rw [kinds_eq]
    isplitl [HA]; · iexact HA
    isplitl [HC0 HC1]
    · isplitl [HC0] <;> iassumption
    isplitl [HS] <;> iassumption
  isplitl [HI0 HR0]; · iapply (in_join m 0 c); isplitl [HI0] <;> iassumption
  isplitl [HI1 HR1]; · iapply (in_join m 1 c); isplitl [HI1] <;> iassumption
  isplitr [Hout]
  · isplitl [HL0]; · iexact HL0
    isplitl [HL1]; · iexact HL1
    isplitl [Hacc HB]
    · iapply (acc_join m c); isplitl [Hacc] <;> iassumption
    iexact HSl
  iexact Hout

/-- The body, from the whole buffers at the launch to the whole buffers at the end. -/
theorem body_whole (c : Dev nD) (Q : PUnit → sProp 𝕄) :
    Start m K c ⊢ iprop((Final m c -∗ Q ⟨⟩) -∗ WP c (bufs (cc0_body (F := F))) Q) := by
  iintro H Hk
  ihave #HR := (show Start m K c ⊢ records m K from by unfold Start; iintro ⟨H, -⟩; iexact H) $$ H
  ihave H := (start_body m K c) $$ H
  icases H with ⟨H, HR0, HR1⟩
  unfold WP
  iapply (wp_fupd _ _ _ _)
  iapply (body_run m K c) $$ H
  iintro H
  imod (body_final m K c) $$ [H HR0 HR1] with H
  · isplitr; · iexact HR
    isplitl [H]; · iexact H
    isplitl [HR0] <;> iassumption
  imodintro
  iapply Hk; iexact H

end Cert.Fused
-- ==== Proof.Launch.lean ====
/-
# The launch

Every cell of every device gets its invariant, its holder's position and its duties' tokens; the tokens go to the devices
that pay the duties. Every device's body then runs from its whole buffers to its whole buffers, and the run of the program
ends with the sum in every device's result, the arguments as they were and every counter at zero.
-/
module

public import proofs.«01_k».proof.Proof.Whole
public import Idealize.ShloMosaic.Lib.Pipeline.CollectiveSegs
public import Idealize.ShloMosaic.Lib.Pipeline.ValueKit.Geometry

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data: one point, one window, the result -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def O₀ (c : Dev nD) : CellTallies nD τ sig Unit := owed c 0 0

/-- The local buffers as the launch names them. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem scratch_eq (c : Dev nD) : (scratch c : sProp 𝕄) = localAny c := by
  unfold scratch localAny accAny landAny slotAny
  rw [show accM.view.set = Finset.univ from View.set_whole _]

/-- What device `c`'s body starts from besides its local buffers. -/
def begins (c : Dev nD) : sProp 𝕄 :=
  iprop((∃ K, records m K) ∗ posAt c ∗ payAt c ∗ cred (tallyAt (barCell c) () 7) ∗ bigSep Finset.univ (recvCred c) ∗ inPts m 0 c ∗ inPts m 1 c)
def Φ₀ (c : Dev nD) : sProp 𝕄 := iprop(begins m c ∗ scratch c)
def Φ₁ (c : Dev nD) : sProp 𝕄 := iprop(zeros c ∗ inPts m 0 c ∗ inPts m 1 c ∗ scratch c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem out_whole (c : Dev nD) (f : Buf (Elt F) (outM.view.loc (c : Thread nD τ))) :
    (((c : Thread nD τ).loc cc0_stg0_0) ↦{fullShare} f : sProp 𝕄) = outPts c f := by
  unfold outPts; rw [show outM.view.set = Finset.univ from View.set_whole _]

def bodyPre (c : Dev nD) : sProp 𝕄 :=
  iprop(Φ₀ m c ∗ (dats m 0 c).owesAt () t₀.castSucc ∗ (∃ d, stg c cc0_stg0_0 ((dats m 0 c).before (0 : Fin 1) t₀ d)))
def bodyPost (c : Dev nD) : sProp 𝕄 :=
  iprop(Φ₁ m c ∗ (dats m 0 c).owesAt () t₀.succ ∗ stg c cc0_stg0_0 (outC m c))

theorem sound_body (c : Dev nD) : bodyPre m c ⊢ WP c (bufs (cc0_body (F := F))) (fun _ => bodyPost m c) := by
  unfold bodyPre Φ₀ begins Dat.owesAt Pipeline.owesWithin
  iintro ⟨⟨⟨⟨%K, HR⟩, HA, HD, HC, HV, HI0, HI1⟩, HS⟩, ⟨%W, %hW, HO⟩, ⟨%d, %g, %hg, Hout⟩⟩
  rw [show (dats m 0 c).owed t₀.castSucc = owed c 0 0 from rfl]
  iapply (body_whole m K c (fun _ => bodyPost m c)) $$ [HR HA HD HC HV HI0 HI1 HS HO Hout]
  · unfold Start
    isplitl [HR]; · iexact HR
    isplitl [HO]; · unfold ow; iexists W; iexact HO
    isplitl [HA]; · iexact HA
    isplitl [HD]; · iexact HD
    isplitl [HC]; · iexact HC
    isplitl [HV]; · iexact HV
    isplitl [HI0]; · iexact HI0
    isplitl [HI1]; · iexact HI1
    isplitl [HS]; · iapply (Entails.of_eq (scratch_eq c)); iexact HS
    iexists g
    iapply (Entails.of_eq (out_whole c g)); iexact Hout
  iintro H
  unfold Final bodyPost Φ₁ Dat.owesAt Pipeline.owesWithin
  rw [show (dats m 0 c).owed t₀.succ = 0 from rfl]
  icases H with ⟨HO, HZ, HI0, HI1, HS, Hout⟩
  isplitl [HZ HI0 HI1 HS]
  · isplitl [HZ]; · iexact HZ
    isplitl [HI0]; · iexact HI0
    isplitl [HI1]; · iexact HI1
    iapply (Entails.of_eq (scratch_eq c).symm); iexact HS
  isplitl [HO]
  · unfold ow
    rw [owed_done]
    icases HO with ⟨%W', HO⟩
    iexists W'
    isplitr; · ipureintro; exact fun _ _ => Or.inl trivial
    iexact HO
  iexists (outC m c)
  isplitr; · ipureintro; rfl
  iapply (Entails.of_eq (out_whole c (outC m c)).symm); iexact Hout

/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  exact sound_body m c

/-! ## The cells' set-up -/

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨cellAt, cellAt_injective⟩
/-- A token for every cell and every device that might pay there. -/
abbrev tokOf (x : (Dev nD × Kd) × Dev nD) : GSem nD τ sig × ℕ × Dev nD := (cellAt x.1, 0, x.2)
theorem tokOf_injective : Function.Injective tokOf := fun x y h =>
  Prod.ext (cellAt_injective (congrArg Prod.fst h)) (congrArg (fun z : GSem nD τ sig × ℕ × Dev nD => z.2.2) h)
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 := bigSep Finset.univ fun k : Kd => bigSep Finset.univ fun d : Dev nD => dutyTok ER (cellAt (c, k)) 0 d
def spots (c : Dev nD) : sProp 𝕄 := bigSep Finset.univ fun k : Kd => atPos ER (cellAt (c, k)) 0 ∅ 0
def marks (c : Dev nD) : sProp 𝕄 := bigSep Finset.univ fun k : Kd => reached ER (cellAt (c, k)) 0

/-- What the launch deals device `c`. -/
def G (c : Dev nD) : sProp 𝕄 :=
  iprop((bigSep Finset.univ fun k : Kd => roundState ER (fusedRd m) (cellAt (c, k)) 0) ∗ spots c ∗ marks c ∗ toks c)
def recs (K : Dev nD × Kd → ℕ) : sProp 𝕄 :=
  iprop((bigSep Finset.univ fun ck : Dev nD × Kd => cellInv ER (fusedRd m) (K ck) (cellAt ck))
    ∗ bigSep Finset.univ fun ck : Dev nD × Kd => reached ER (cellAt ck) 0)
instance recs_persistent (K : Dev nD × Kd → ℕ) : BI.Persistent (recs m K) := by unfold recs; infer_instance
/-- And what it has once all devices' cells are set up. -/
def G' (c : Dev nD) : sProp 𝕄 := iprop((∃ K, recs m K) ∗ posAt c ∗ payAt c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (fusedRd m) ringCells ringToks) $$ HX with ⟨Hst, Hr, Hat, Htok⟩
  imodintro
  ihave Hst' := (Entails.of_eq (hX fun g => roundState ER (fusedRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G spots marks; simp only [bigSep_sep']
  isplitl [Hst']; · iexact Hst'
  isplitl [Hat']; · iexact Hat'
  isplitl [Hr'] <;> iassumption

theorem unscopedSems0_eq (c : Dev nD) : (unscopedSems0 c : sProp 𝕄) = semVal (barCell c) 0 := by
  unfold unscopedSems0; rw [bigSep_eq_bigSepL_of_eq [SemLoc.reg barS] (by decide) (by decide)]; rfl
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  have h1 (Φ : Unit → sProp 𝕄) : bigSep Finset.univ Φ = Φ () := bigSep_univ_eq_bigSepL [()] (by decide) (by decide) Φ
  unfold zeros Pipeline.ownSems0; rw [unscopedSems0_eq, bigSep_univ_sum, h1]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (fusedRd m) κ (cellAt (c, k)))) ∗ spots c ∗ marks c ∗ toks c) := by
  unfold G
  iintro ⟨Hos, Hus, Hst, Hrest⟩
  ihave Hv := (Entails.of_eq (zeros_eq (F := F) c).symm) $$ [Hos Hus]
  · isplitl [Hus] <;> iassumption
  imod (show iprop(zeros c ∗ bigSep Finset.univ fun k : Kd => roundState ER (fusedRd m) (cellAt (c, k)) 0)
      ⊢ (|={Set.univ}=> bigSep Finset.univ fun k => iprop(∃ κ : ℕ, cellInv ER (fusedRd m) κ (cellAt (c, k))) : sProp 𝕄) from by
        unfold zeros
        rw [← bigSep_sep']
        exact (bigSep_mono fun k _ => (Rounds.body_intro ER (fusedRd m) (cellAt (c, k))).trans inv_alloc).trans (bigSep_fupd _ _)) $$ [Hv Hst] with Hinv
  · isplitl [Hv] <;> iassumption
  imodintro
  isplitl [Hinv] <;> iassumption

theorem spots_eq (c : Dev nD) : spots c ⊢ (posAt c : sProp 𝕄) := by
  unfold spots posAt
  rw [kinds_eq]
  iintro ⟨H0, ⟨H1, H2⟩, H3, H4⟩
  isplitl [H0]; · iexact H0
  isplitl [H1]; · iexact H1
  isplitl [H2]; · iexact H2
  isplitl [H3] <;> iassumption

/-- The tokens go to the devices that pay with them. -/
theorem toks_bar : (bigSep Finset.univ fun c : Dev nD => bigSep Finset.univ fun d : Dev nD => (dutyTok ER (barCell c) 0 d : sProp 𝕄))
    ⊢ bigSep Finset.univ fun d : Dev nD => bigSep Finset.univ (sigDuty d) := by
  rw [bigSep_univ_comm]
  refine bigSep_mono fun d _ => bigSep_mono fun c _ => ?_
  show (dutyTok ER (barCell c) 0 d : sProp 𝕄) ⊢ sigDuty d c
  unfold sigDuty
  split
  · iintro -; iempintro
  · iintro H; iexact H
theorem toks_own (x : Fin 8 → Kd) : (bigSep Finset.univ fun c : Dev nD => bigSep Finset.univ fun j : Fin 8 => bigSep Finset.univ fun d : Dev nD =>
      (dutyTok ER (cellAt (c, x j)) 0 d : sProp 𝕄))
    ⊢ bigSep Finset.univ fun c : Dev nD => bigSep Finset.univ fun j : Fin 8 => dutyTok ER (cellAt (c, x j)) 0 c :=
  bigSep_mono fun c _ => bigSep_mono fun j _ => bigSep_elim (Finset.mem_univ c)
theorem toks_recv : (bigSep Finset.univ fun c : Dev nD => bigSep Finset.univ fun k : Fin 8 => bigSep Finset.univ fun d : Dev nD =>
      (dutyTok ER (recvCell c k) 0 d : sProp 𝕄))
    ⊢ bigSep Finset.univ fun k : Dev nD => bigSep Finset.univ fun c : Fin 8 => dutyTok ER (recvCell c k) 0 k := by
  rw [bigSep_univ_comm]
  exact bigSep_mono fun k _ => bigSep_mono fun c _ => bigSep_elim (Finset.mem_univ k)
theorem toks_send (c : Dev nD) : iprop((bigSep Finset.univ fun k : Fin 8 => dutyTok ER (sendCell c k) 0 c) ∗ bigSep Finset.univ fun k : Fin 8 => dutyTok ER (recvCell k c) 0 c)
    ⊢ (bigSep Finset.univ (sendDuty c) : sProp 𝕄) := by
  rw [← bigSep_sep']
  refine bigSep_mono fun k _ => ?_
  show iprop(dutyTok ER (sendCell c k) 0 c ∗ dutyTok ER (recvCell k c) 0 c) ⊢ (sendDuty c k : sProp 𝕄)
  unfold sendDuty
  split
  · iintro -; iempintro
  · iintro H; iexact H
theorem toks_around : (bigSep Finset.univ fun c : Dev nD => (toks c : sProp 𝕄)) ⊢ bigSep Finset.univ fun c : Dev nD => payAt c := by
  unfold toks payAt
  rw [bigSep_congr (s := Finset.univ) fun (c : Dev nD) _ => kinds_eq fun k : Kd => bigSep Finset.univ fun d : Dev nD => (dutyTok ER (cellAt (c, k)) 0 d : sProp 𝕄)]
  rw [bigSep_sep', bigSep_sep', bigSep_sep', bigSep_sep', bigSep_sep', bigSep_sep', bigSep_sep']
  iintro ⟨H0, ⟨H1, H2⟩, H3, H4⟩
  isplitl [H0]; · iapply (toks_bar (F := F)); iexact H0
  isplitl [H1]; · iapply (toks_own (F := F) fun j => .inr (.inl (0, j))); iexact H1
  isplitl [H2]; · iapply (toks_own (F := F) fun j => .inr (.inl (1, j))); iexact H2
  iapply ((Entails.of_eq (bigSep_sep' Finset.univ (fun c : Dev nD => bigSep Finset.univ fun k : Fin 8 => (dutyTok ER (sendCell c k) 0 c : sProp 𝕄))
    (fun c : Dev nD => bigSep Finset.univ fun k : Fin 8 => dutyTok ER (recvCell k c) 0 c)).symm).trans (bigSep_mono fun c _ => toks_send c))
  isplitl [H3]
  · iapply (toks_own (F := F) fun k => .inr (.inr (.inl k))); iexact H3
  · iapply (toks_recv (F := F)); iexact H4

theorem regroup :
    (bigSep Finset.univ fun c : Dev nD => iprop((bigSep Finset.univ fun k : Kd => iprop(∃ κ : ℕ, cellInv ER (fusedRd m) κ (cellAt (c, k)))) ∗ spots c ∗ marks c ∗ toks c) : sProp 𝕄)
      ⊢ bigSep Finset.univ (G' m) := by
  rw [bigSep_sep', bigSep_sep', bigSep_sep', ← bigSep_univ_prod (fun ck : Dev nD × Kd => iprop(∃ κ : ℕ, cellInv ER (fusedRd m) κ (cellAt ck)))]
  unfold marks
  rw [← bigSep_univ_prod (fun ck : Dev nD × Kd => (reached ER (cellAt ck) 0 : sProp 𝕄))]
  iintro ⟨HI, Hat, #HR, Htok⟩
  ihave HK := (BI.bigSep_exists_pi Finset.univ (fun (ck : Dev nD × Kd) (κ : ℕ) => (cellInv ER (fusedRd m) κ (cellAt ck) : sProp 𝕄))) $$ HI
  icases HK with ⟨%K, #HI⟩
  ihave Htk := (toks_around (F := F)) $$ Htok
  iapply (bigSep_with_persistent (R := recs m K) (Φ := fun c => iprop(spots c ∗ payAt c)) fun c _ =>
    show iprop(recs m K ∗ spots c ∗ payAt c) ⊢ G' m c from by
      unfold G'
      iintro ⟨HR, HS, HP⟩
      isplitl [HR]; · iexists K; iexact HR
      isplitl [HS]; · iapply (spots_eq (F := F) c); iexact HS
      iexact HP)
  isplitr
  · unfold recs; isplitl; · iexact HI
    iexact HR
  · rw [bigSep_sep']
    isplitl [Hat] <;> iassumption

/-- All devices' counters and shares at once become what each body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device holds for what others owe it -/

theorem tally_cell (k c : Dev nD) (y x : Kd) (n : ℕ) : tallyAt (cellAt (k, y)) () n (cellAt (c, x)) () = if k = c then (if x = y then n else 0) else 0 := by
  rw [tallyAt_apply]
  by_cases hk : k = c
  · subst hk
    rw [if_pos rfl]
    by_cases hx : x = y
    · subst hx; rw [if_pos ⟨rfl, rfl⟩, if_pos rfl]
    · rw [if_neg hx, if_neg fun h => hx (congrArg Prod.snd (cellAt_injective h.1))]
  · rw [if_neg hk, if_neg fun h => hk (congrArg Prod.fst (cellAt_injective h.1)).symm]

/-- What device `d` owes a cell of device `c`. -/
theorem owed_cell (d c : Dev nD) (x : Kd) : O₀ d (cellAt (c, x)) ()
    = (if c = d then 0 else if x = .inr (.inr (.inr d)) then Nr else 0) + (if c = d then 0 else if x = .inl () then 1 else 0) := by
  have h (ow1 : Dev nD → Fin 8 → CellTallies nD τ sig Unit) (y : Kd) (n : ℕ) (hd : ∀ k, ow1 d k = if k = d then 0 else tallyAt (cellAt (k, y)) () n) :
      (∑ k : Fin 8, if 0 ≤ k.val then ow1 d k else 0) (cellAt (c, x)) () = if c = d then 0 else if x = y then n else 0 := by
    rw [Finset.sum_apply, Finsupp.finset_sum_apply, Finset.sum_congr rfl fun (k : Fin 8) _ =>
      show (if 0 ≤ k.val then ow1 d k else 0) (cellAt (c, x)) () = if k = c then (if c = d then 0 else if x = y then n else 0) else 0 from by
        rw [if_pos (Nat.zero_le _), hd k]
        by_cases hk : k = d
        · rw [if_pos hk]
          by_cases hc : k = c
          · rw [if_pos hc, if_pos (hc.symm.trans hk)]; rfl
          · rw [if_neg hc]; rfl
        · rw [if_neg hk, tally_cell]
          by_cases hc : k = c
          · rw [if_pos hc, if_pos hc, if_neg fun h => hk (hc.trans h)]
          · rw [if_neg hc, if_neg hc], Finset.sum_ite_eq' Finset.univ c, if_pos (Finset.mem_univ _)]
  unfold O₀ owed
  rw [Pi.add_apply, Finsupp.add_apply, h oweRcv1 (.inr (.inr (.inr d))) Nr fun k => rfl, h oweBar1 (.inl ()) 1 fun k => rfl]

theorem launch_cell (c : Dev nD) (x : Kd) (n : ℕ)
    (hn : ∑ d : Dev nD, ((if c = d then 0 else if x = .inr (.inr (.inr d)) then Nr else 0) + (if c = d then 0 else if x = .inl () then 1 else 0)) = n) :
    tallyOn (cellAt (c, x)) (launchCredit (Pipeline.owing O₀) 0 (cellAt (c, x))) = (tallyAt (cellAt (c, x)) () n : CellTallies nD τ sig Unit) := by
  unfold tallyAt; refine congrArg _ (Finsupp.ext fun u => ?_); cases u
  rw [Pipeline.launchCredit_owing, Finsupp.single_eq_same, Finset.sum_congr rfl fun d _ => owed_cell d c x, hn]

theorem launch_bar (c : Dev nD) :
    tallyOn (barCell c) (launchCredit (Pipeline.owing O₀) 0 (barCell c)) = (tallyAt (barCell c) () 7 : CellTallies nD τ sig Unit) :=
  launch_cell c (.inl ()) 7 (by
    rw [Finset.sum_congr rfl fun (d : Dev nD) _ => show _ = if c = d then 0 else 1 from by
      rw [if_neg (fun h : (Sum.inl () : Kd) = .inr (.inr (.inr d)) => Sum.inl_ne_inr h), if_pos rfl, ite_self, Nat.zero_add]]
    revert c; decide)
theorem launch_recv (c : Dev nD) (k : Fin 8) (hk : k ≠ c) :
    tallyOn (recvCell c k) (launchCredit (Pipeline.owing O₀) 0 (recvCell c k)) = (tallyAt (recvCell c k) () Nr : CellTallies nD τ sig Unit) :=
  launch_cell c (.inr (.inr (.inr k))) Nr (by
    rw [Finset.sum_congr rfl fun (d : Dev nD) _ => show _ = if d = k then Nr else 0 from by
      rw [if_neg (fun h : (.inr (.inr (.inr k)) : Kd) = Sum.inl () => Sum.inr_ne_inl h), ite_self, Nat.add_zero]
      by_cases hd : d = k
      · subst hd; rw [if_neg hk.symm, if_pos rfl, if_pos rfl]
      · rw [if_neg hd, if_neg fun h => hd (Sum.inr.inj (Sum.inr.inj (Sum.inr.inj h))).symm, ite_self]]
    rw [Finset.sum_ite_eq' Finset.univ k, if_pos (Finset.mem_univ _)])

theorem creds (c : Dev nD) :
    (Pipeline.launchCred O₀ c : sProp 𝕄) ⊢ iprop(cred (tallyAt (barCell c) () 7) ∗ bigSep Finset.univ (recvCred c)) := by
  unfold Pipeline.launchCred
  have hmap (Φ : SemLoc sig → sProp 𝕄) : bigSep Finset.univ Φ ⊢ bigSep Finset.univ fun k : Kd => Φ (csem k) := by
    have h : bigSep (Finset.univ.map ⟨csem, csem_injective⟩) Φ = bigSep Finset.univ fun k : Kd => Φ (csem k) := bigSep_map _
    rw [← h]
    exact BI.bigSep_subset (Finset.subset_univ _)
  refine (hmap _).trans ?_
  rw [kinds_eq]
  iintro ⟨H0, -, -, H4⟩
  isplitl [H0]
  · iapply (Entails.of_eq (congrArg cred (launch_bar c))); iexact H0
  · iapply (show (bigSep Finset.univ fun k : Fin 8 => cred (tallyOn (recvCell c k) (launchCredit (Pipeline.owing O₀) 0 (recvCell c k)))) ⊢ (bigSep Finset.univ (recvCred c) : sProp 𝕄) from
      bigSep_mono fun k _ => by
        show cred (tallyOn (recvCell c k) (launchCredit (Pipeline.owing O₀) 0 (recvCell c k))) ⊢ (recvCred c k : sProp 𝕄)
        unfold recvCred
        by_cases hk : k = c
        · rw [if_pos hk]; iintro -; iempintro
        · rw [if_neg hk, launch_recv c k hk])
    iexact H4

/-! ## The run -/

/-- The third argument, which the kernel does not touch. -/
def gammaPts (c : Dev nD) : sProp 𝕄 := ((c : Thread nD τ).loc main_arg2) ↦{fullShare} m ((c : Thread nD τ).loc main_arg2)

theorem rest_eq (c : Dev nD) :
    (Pipeline.unscopedRest cfg0.spec c (fun b => m ((c : Thread nD τ).loc b)) : sProp 𝕄) = iprop(inPts m 0 c ∗ inPts m 1 c ∗ gammaPts m c) :=
  (unscopedRest0_eq c _).trans rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begins m c ∗ gammaPts m c) := by
  rw [Pipeline.unscopedRestP_none, rest_eq]
  unfold G' begins
  iintro ⟨⟨H0, H1, H2⟩, Hlev, Hcr, -, ⟨⟨%K, HK⟩, HA, HP⟩⟩
  ihave Hc := (creds (F := F) c) $$ Hcr
  icases Hc with ⟨HB, HV⟩
  imodintro
  isplitr [H2]
  · isplitl [HK Hlev]
    · iexists K
      unfold recs records
      icases HK with ⟨HI, HR⟩
      isplitl [HI]; · iexact HI
      isplitl [HR] <;> iassumption
    isplitl [HA]; · iexact HA
    isplitl [HP]; · iexact HP
    isplitl [HB]; · iexact HB
    isplitl [HV]; · iexact HV
    isplitl [H0] <;> iassumption
  · iexact H2

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

def ends (c : Dev nD) : sProp 𝕄 := iprop(unscopedSems0 c ∗ inPts m 0 c ∗ inPts m 1 c)

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scopedRest0_eq]
  unfold Φ₁ ends scratch
  rw [zeros_eq]
  iintro ⟨⟨HU, HZ⟩, H0, H1, HS⟩
  isplitl [HU H0 H1]
  · isplitl [HU]; · iexact HU
    isplitl [H0] <;> iassumption
  isplitl [HZ] <;> iassumption

theorem mayWait_stage (c : Dev nD) (q : DmaSem sig) (hq : lvK (kindOf (SemLoc.dma q)) = 0) (O : CellTallies nD τ sig Unit) (hO : O = O₀ c ∨ O = 0) :
    (levAts L lv : sProp 𝕄) ⊢ MayWait (c : Thread nD τ) (.dma q) () O := by
  rcases hO with rfl | rfl
  · exact mayWait_low c _ 0 0 hq
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The argument arrays of device `c` are as they were. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem mem_rest : main_arg0 ∈ (Finset.univ.filter fun b : Ref sig .tc => ¬b.isScoped = true) \ Finset.univ.image (Pipeline.arrRef cfg0.spec)
    ∧ main_arg1 ∈ (Finset.univ.filter fun b : Ref sig .tc => ¬b.isScoped = true) \ Finset.univ.image (Pipeline.arrRef cfg0.spec)
    ∧ main_arg2 ∈ (Finset.univ.filter fun b : Ref sig .tc => ¬b.isScoped = true) \ Finset.univ.image (Pipeline.arrRef cfg0.spec) := by decide

theorem read_args (c : Dev nD) (s' : Phys nD τ sig (Elt F)) :
    iprop((inPts m 0 c ∗ inPts m 1 c ∗ gammaPts m c) ∗ SI s') ⊢ iprop(⌜Kept m c s'.mem⌝ ∗ (SI s' : sProp 𝕄)) := by
  rw [← rest_eq]
  unfold Pipeline.unscopedRest
  refine (pointsTo_read_all _ (fun b => (c : Thread nD τ).loc b) (fun b => m ((c : Thread nD τ).loc b)) s').trans ?_
  iintro ⟨%h, HS⟩
  isplitr
  · ipureintro
    exact ⟨h main_arg0 mem_rest.1, h main_arg1 mem_rest.2.1, h main_arg2 mem_rest.2.2⟩
  iexact HS

theorem read_end (c : Dev nD) (s' : Phys nD τ sig (Elt F)) :
    iprop(ends m c ∗ gammaPts m c ∗ SI s')
      ⊢ |={Set.univ}=> iprop(⌜(∀ sm : SemLoc sig, sm.isScoped .tc = false → s'.mem.sem ((c.tc : Thread nD τ), sm) = 0) ∧ Kept m c s'.mem⌝ ∗ (SI s' : sProp 𝕄)) := by
  unfold ends
  iintro ⟨⟨HU, H0, H1⟩, H2, HSI⟩
  ihave H := (read_args m c s') $$ [H0 H1 H2 HSI]
  · isplitr [HSI]
    · isplitl [H0]; · iexact H0
      isplitl [H1] <;> iassumption
    · iexact HSI
  icases H with ⟨%hk, HSI⟩
  imod (Pipeline.unscopedSems0_read (X := unscopedSems0 c) (c := c) fupd_intro s') $$ [HU HSI] with ⟨%hz, HSI⟩
  · isplitl [HU] <;> iassumption
  imodintro
  isplitr; · ipureintro; exact ⟨hz, hk⟩
  iexact HSI

theorem final_out (c : Dev nD) : (dats m 0 c).arrAt (0 : Fin 1) cfg0.N = outC m c :=
  (dats m 0 c).arrAt_eq_of_after_last (0 : Fin 1) t₀ (by decide +kernel) (outC m c) (fun j => rfl)

set_option maxRecDepth 8000 in
/-- On the mesh of eight devices, for any float values, from any memory with zero counters, every weakly fair execution of
    the program ends, and then every device's result is the sum, the arguments are unchanged and every counter is zero. -/
theorem run_main : θ_run defs (onTc (τ := τ) (main (F := F))) ⟨m, fun _ => 0, ρ⟩
    (fun r => (∀ c : Dev nD, r.2.mem ((c : Thread nD τ).loc main_v1) = outC m c ∧ Kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begins m) (Y := ends m) (Z := gammaPts m)
    (hX := start_intro m ρ) (hin := phi0_intro m) (hout := phi1_exit m)
    (QY := fun c s => (∀ sm : SemLoc sig, sm.isScoped .tc = false → s.sem ((c.tc : Thread nD τ), sm) = 0) ∧ Kept m c s)
    (hY := read_end m)
    (hQ := fun _ h hs => ⟨fun c => ⟨((h c).1 0).trans (final_out m c), (h c).2.2.2⟩, sem_eq_zero hs fun c => (h c).2.2.1⟩)

end Cert.Fused
-- ==== Proof.Value.lean ====
/-
# The values

Entry `(i, l)` of the result is a sum over all rows of the whole arrays: of `dy` times the normalised `x` for `i = 0`, of
`dy` for `i = 1`. The reference's term is read as that sum, and so is the sum of the devices' accumulators that the kernel
leaves: each accumulator is the sum over the 1024 rows of its device, chunk by chunk.
-/
module

public import proofs.«01_k».proof.Proof.Launch
public import proofs.«01_k».proof.Proof.Gen.ReferenceIdeal
public import proofs.«01_k».proof.Proof.Gen.ReferenceIdeal.Run
public import Idealize.ShloMosaic.Lib.Pointwise
public import Idealize.ShloMosaic.Lib.LayoutAt
public import Idealize.ShloMosaic.Lib.KernelVsHost

@[expose] public section

set_option maxRecDepth 16384

noncomputable section

namespace Cert.Fused

open Idealize.ShloMosaic
open Cert.KernelIdeal Cert.KernelIdeal.Gen
open Idealize.ShloMosaic.TcCoe

/-! ## One row's contribution -/

/-- The length of a row and the constant added to the variance, as the programs write them. -/
def rowLen : EReal := Ideal.ofBits .f32 0x45000000#32
def eps : EReal := Ideal.ofBits .f32 0x3727C5AC#32

theorem rowLen_eq : rowLen = ((2048 : ℝ) : EReal) := by
  unfold rowLen; simp [Ideal.ofBits, Ideal.ieee, -EReal.coe_mul]; norm_num
theorem rowLen_pos : 0 < rowLen := by rw [rowLen_eq]; exact_mod_cast (by norm_num : (0 : ℝ) < 2048)
theorem eps_nonneg : 0 ≤ eps := by
  unfold eps; simp [Ideal.ofBits, Ideal.ieee, -EReal.coe_mul]

def rowMean (x : Fin 2048 → EReal) : EReal := Ideal.div (∑ k, x k) rowLen
def rowVar (x : Fin 2048 → EReal) : EReal := Ideal.div (∑ k, (x k - rowMean x) * (x k - rowMean x)) rowLen

/-- What a row adds to entry `(i, l)` of the result. -/
def contrib (i : Fin 2) (x d : Fin 2048 → EReal) (l : Fin 2048) : EReal :=
  if i.val < 1 then d l * ((x l - rowMean x) * Ideal.rsqrt (rowVar x + eps)) else d l

/-- The result over the whole arrays. -/
def total (X D : (⟨2, ![8192, 2048]⟩ : Shape).Idx → EReal) : S2x2048.Idx → EReal := fun j =>
  ∑ R : Fin 8192, contrib (j 0) (fun k => X (ix2 R k)) (fun k => D (ix2 R k)) (j 1)

/-! ## The reference -/

theorem square_nonneg (a : EReal) : 0 ≤ a * a := by
  rcases le_total 0 a with h | h
  · exact EReal.mul_nonneg h h
  · exact EReal.mul_nonneg_iff.2 (Or.inr ⟨h, h⟩)

theorem rowVar_nonneg (x : Fin 2048 → EReal) : 0 ≤ rowVar x := by
  unfold rowVar Ideal.div
  rw [if_neg rowLen_pos.ne']
  exact EReal.mul_nonneg (Finset.sum_nonneg fun k _ => square_nonneg _) (EReal.inv_nonneg_of_nonneg rowLen_pos.le)

/-- The reciprocal of a square root, on numbers that are not negative. -/
theorem one_div_sqrt (v : EReal) (hv : 0 ≤ v) : Ideal.div 1 (Ideal.sqrt v) = Ideal.rsqrt v := by
  induction v using EReal.rec with
  | bot => exact absurd hv (by simp)
  | top => simp [Ideal.div]
  | coe r =>
    have hr : 0 ≤ r := by exact_mod_cast hv
    rw [Ideal.sqrt_coe, Ideal.rsqrt_coe, if_neg hr.not_gt, if_neg hr.not_gt]
    by_cases h0 : r = 0
    · subst h0; simp [Ideal.div]
    · have hs : Real.sqrt r ≠ 0 := (Real.sqrt_pos.2 (lt_of_le_of_ne hr (Ne.symm h0))).ne'
      rw [if_neg h0]; unfold Ideal.div
      rw [if_neg (by exact_mod_cast hs), one_mul, EReal.coe_inv]

theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v19)
          = total (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2) := by
  refine (θ_run _ _ _).mono (fun r h c => ⟨(h c).1.trans ?_, (h c).2⟩) (Cert.ReferenceIdeal.Value.run (F := Ideal) m ρ)
  clear h
  generalize m ((c.tc : Thread Cert.ReferenceIdeal.nD Cert.ReferenceIdeal.τ).loc Cert.ReferenceIdeal.main_arg0) = X
  generalize m ((c.tc : Thread Cert.ReferenceIdeal.nD Cert.ReferenceIdeal.τ).loc Cert.ReferenceIdeal.main_arg1) = D
  change (⟨2, ![8192, 2048]⟩ : Shape).Idx → EReal at X
  change (⟨2, ![8192, 2048]⟩ : Shape).Idx → EReal at D
  funext j
  obtain ⟨i, l, rfl⟩ : ∃ (i : Fin 2) (l : Fin 2048), j = ix2 i l := ⟨j 0, j 1, eq_ix2 j⟩
  have hN : rowLen - FloatOps.sitofp (F := Ideal) FTy.f32 (0#32 : BitVec 32) = rowLen :=
    (congrArg (rowLen - ·) (sitofp_zero (φ := .f32))).trans (by simp)
  pointwise
  change _ = ∑ R : Fin 8192, contrib i (fun k => X (ix2 R k)) (fun k => D (ix2 R k)) l
  change (if h : i.val < 1 then ∑ R : Fin 8192, D (ix2 R l) * ((X (ix2 R l) - rowMean fun k => X (ix2 R k)) *
    Ideal.div 1 (Ideal.sqrt ((if 0 < rowLen - FloatOps.sitofp (F := Ideal) FTy.f32 (0#32 : BitVec 32) then
      Ideal.div (∑ k, (X (ix2 R k) - rowMean fun k => X (ix2 R k)) * (X (ix2 R k) - rowMean fun k => X (ix2 R k)))
        (rowLen - FloatOps.sitofp (F := Ideal) FTy.f32 (0#32 : BitVec 32)) else _) + eps))) else ∑ R : Fin 8192, D (ix2 R l)) = _
  rw [hN]
  by_cases hi : i.val < 1
  · rw [dif_pos hi]
    refine Finset.sum_congr rfl fun R _ => ?_
    rw [if_pos rowLen_pos]
    unfold contrib
    rw [if_pos hi, ← one_div_sqrt _ (add_nonneg (rowVar_nonneg _) eps_nonneg)]
    rfl
  · rw [dif_neg hi]
    refine Finset.sum_congr rfl fun R _ => ?_
    unfold contrib
    rw [if_neg hi]

/-! ## One chunk on the kernel's side -/

theorem pay20_apply (t : FVec Ideal S2x2048 .f32) (x d : Vec Ideal S1x128x2048 .f32) (i : Fin 2) (l : Fin 2048) :
    k0_pay20 (F := Ideal) t x d (ix2 i l)
      = t (ix2 i l) + ∑ r : Fin 128, contrib i (fun k => x (ix3 0 r k)) (fun k => d (ix3 0 r k)) l := by
  pointwise [k0_pay20]
  refine congrArg (t (ix2 i l) + ·) ?_
  unfold contrib
  by_cases hi : i.val < 1
  · simp only [dif_pos hi, if_pos hi]; rfl
  · simp only [dif_neg hi, if_neg hi]

theorem pay1_apply (i : Fin 2) (l : Fin 2048) : k0_pay1 (F := Ideal) (ix2 i l) = 0 := by pointwise [k0_pay1]

/-- What the part towards device `k` adds on device `c`. -/
def other (w : BitVec 32) (k : BitVec 32) (y : EReal) : EReal := Scalar.select (Scalar.cmpi .ne w k) y 0

theorem pay21_apply (w : BitVec 32) (t : FVec Ideal S2x2048 .f32) (x y z : Vec Ideal S1x2x2048 .f32) (i : Fin 2) (l : Fin 2048) :
    k0_pay21 (F := Ideal) w t x y z (ix2 i l)
      = t (ix2 i l) + other w 0#32 (x (ix3 0 i l)) + other w 1#32 (y (ix3 0 i l)) + other w 2#32 (z (ix3 0 i l)) := by
  pointwise [k0_pay21]; rfl
theorem pay22_apply (w : BitVec 32) (t : FVec Ideal S2x2048 .f32) (x y z : Vec Ideal S1x2x2048 .f32) (i : Fin 2) (l : Fin 2048) :
    k0_pay22 (F := Ideal) w t x y z (ix2 i l)
      = t (ix2 i l) + other w 3#32 (x (ix3 0 i l)) + other w 4#32 (y (ix3 0 i l)) + other w 5#32 (z (ix3 0 i l)) := by
  pointwise [k0_pay22]; rfl
theorem pay23_apply (w : BitVec 32) (t : FVec Ideal S2x2048 .f32) (x y : Vec Ideal S1x2x2048 .f32) (i : Fin 2) (l : Fin 2048) :
    k0_pay23 (F := Ideal) w t x y (ix2 i l)
      = t (ix2 i l) + other w 6#32 (x (ix3 0 i l)) + other w 7#32 (y (ix3 0 i l)) := by
  pointwise [k0_pay23]; rfl

/-! ## What lands and what is loaded -/

variable (m : (ℓ : Loc nD τ sig) → Buf (Elt Ideal) ℓ)

theorem off1_val : ∀ (c : Dev nD) (j : Fin 8), k0_off1 c (BitVec.ofNat 32 (128 * j.val)) 0 = 1024 * (c.val % 4) + 128 * j.val
    ∧ k0_off1 c (BitVec.ofNat 32 (128 * j.val)) 1 = 0 := by decide +kernel

theorem local_lt (c : Dev nD) (j : Fin 8) (r : Fin 128) : 1024 * (c.val % 4) + 128 * j.val + r.val < 4096 := by omega
theorem row_lt (c : Fin 8) (j : Fin 8) (r : Fin 128) : 1024 * c.val + 128 * j.val + r.val < 8192 := by omega

/-- The contents of input `a` on device `c`, by its rows. -/
def src (a : Fin 2) (c : Dev nD) : S4096x2048.Idx → EReal := (srcM a).view.read (Elt Ideal) (srcC m a c)

theorem chunk_emb (c : Dev nD) (j : Fin 8) (r : Fin 128) (k : Fin 2048) :
    (Rect.unit (s := S4096x2048) (k0_off1 c (BitVec.ofNat 32 (128 * j.val))) S128x2048.size (k0_off1_inb c j)).emb (ix2 r k)
      = ix2 ⟨_, local_lt c j r⟩ k := by
  funext a
  refine Fin.ext ?_
  rw [Rect.emb_apply]
  fin_cases a
  · show k0_off1 c (BitVec.ofNat 32 (128 * j.val)) 0 + 1 * r.val = _
    rw [(off1_val c j).1, one_mul]; rfl
  · show k0_off1 c (BitVec.ofNat 32 (128 * j.val)) 1 + 1 * k.val = _
    rw [(off1_val c j).2, one_mul, zero_add]; rfl

/-- A loaded chunk is the chunk of the device's own rows. -/
theorem loaded_apply (a : Fin 2) (c : Dev nD) (j : Fin 8) (r : Fin 128) (k : Fin 2048) :
    loaded m a c j (ix3 0 r k) = src m a c (ix2 ⟨_, local_lt c j r⟩ k) := by
  have h := congrFun (View.read_write_univ (Val := Elt Ideal) (v := (landS a j).view) (m ((landS a j).view.loc (c : Thread nD τ)))
    ((chunkM a c j).view.read (Elt Ideal) (srcC m a c))) (ix2 r k)
  have h2 : shapeCast S128x2048 (loaded m a c j) squeezes_S1x128x2048_S128x2048.numel_eq (ix2 r k) = loaded m a c j (ix3 0 r k) := by
    generalize loaded m a c j = v
    pointwise
  refine (h2.symm.trans h).trans ?_
  exact congrArg (src m a c) (chunk_emb c j r k)

theorem received_apply (c : Dev nD) (k : Fin 8) (i : Fin 2) (l : Fin 2048) :
    received m c k (ix3 0 i l) = accC m k (ix2 i l) := by
  have h := congrFun (View.read_write_univ (Val := Elt Ideal) (v := (recvS k).view) (m ((recvS k).view.loc (c : Thread nD τ)))
    (accM.view.read (Elt Ideal) (accC m k))) (ix2 i l)
  have h2 : shapeCast S2x2048 (received m c k) squeezes_S1x2x2048_S2x2048.numel_eq (ix2 i l) = received m c k (ix3 0 i l) := by
    generalize received m c k = v
    pointwise
  exact h2.symm.trans h

/-! ## Sums -/

/-- What device `c` computes for its own rows. -/
theorem accUpTo_apply (c : Dev nD) (i : Fin 2) (l : Fin 2048) : ∀ n (hn : n ≤ 8), accUpTo m c n (ix2 i l)
    = ∑ j : Fin n, ∑ r : Fin 128, contrib i (fun k => src m 0 c (ix2 ⟨_, local_lt c (j.castLE hn) r⟩ k))
        (fun k => src m 1 c (ix2 ⟨_, local_lt c (j.castLE hn) r⟩ k)) l
  | 0, _ => by rw [← accUpTo_zero, pay1_apply]; rfl
  | n + 1, hn => by
    rw [← accUpTo_succ m c ⟨n, hn⟩ n rfl, pay20_apply, accUpTo_apply c i l n (Nat.le_of_succ_le hn), Fin.sum_univ_castSucc (n := n)]
    refine congrArg₂ (fun a b : EReal => a + b) rfl (Finset.sum_congr rfl fun r _ => ?_)
    simp only [loaded_apply]
    rfl

theorem other_eq (c k : Fin 8) (y : EReal) : other (myW c) (BitVec.ofNat 32 k.val) y = if k = c then 0 else y := by
  unfold other
  by_cases hk : k = c
  · subst hk; rw [guard_self, if_pos rfl]; rfl
  · have h : ∀ c k : Fin 8, k ≠ c → Scalar.cmpi .ne (myW c) (BitVec.ofNat 32 k.val) = 1#1 := by decide
    rw [h c k hk, if_neg hk]; rfl

/-- The kernel's result is the sum of all accumulators. -/
theorem outC_apply (c : Dev nD) (i : Fin 2) (l : Fin 2048) : outC m c (ix2 i l) = ∑ k : Fin 8, accC m k (ix2 i l) := by
  have hs : (∑ k : Fin 8, accC m k (ix2 i l)) = accC m c (ix2 i l) + ∑ k : Fin 8, if k = c then 0 else accC m k (ix2 i l) := by
    rw [← Finset.add_sum_erase _ _ (Finset.mem_univ c), ← Finset.add_sum_erase Finset.univ (fun k : Fin 8 => if k = c then 0 else accC m k (ix2 i l)) (Finset.mem_univ c), if_pos rfl, zero_add]
    exact congrArg (accC m c (ix2 i l) + ·) (Finset.sum_congr rfl fun k hk => (if_neg (Finset.ne_of_mem_erase hk)).symm)
  rw [hs, Fin.sum_univ_eight]
  simp only [← other_eq]
  unfold outC
  rw [pay23_apply, pay22_apply, pay21_apply]
  simp only [received_apply, add_assoc]
  rfl

/-- A sum over all rows is a sum over the devices, their chunks and the chunks' rows. -/
theorem sum_rows (f : Fin 8192 → EReal) : (∑ c : Fin 8, ∑ j : Fin 8, ∑ r : Fin 128, f ⟨_, row_lt c j r⟩) = ∑ R : Fin 8192, f R := by
  have h1 : ∀ c : Fin 8, (∑ j : Fin 8, ∑ r : Fin 128, f ⟨_, row_lt c j r⟩)
      = ∑ q : Fin (8 * 128), f ⟨q.val + 1024 * c.val, by omega⟩ := fun c => by
    rw [← Equiv.sum_comp finProdFinEquiv, Fintype.sum_prod_type]
    refine Finset.sum_congr rfl fun j _ => Finset.sum_congr rfl fun r _ => congrArg f (Fin.ext ?_)
    show 1024 * c.val + 128 * j.val + r.val = r.val + 128 * j.val + 1024 * c.val
    omega
  rw [Finset.sum_congr rfl fun c _ => h1 c, ← Fintype.sum_prod_type' (f := fun (c : Fin 8) (q : Fin (8 * 128)) => f ⟨q.val + 1024 * c.val, by omega⟩)]
  exact Equiv.sum_comp (finProdFinEquiv (m := 8) (n := 1024)) (f : Fin (8 * 1024) → EReal)

/-! ## Both sides -/

/-- A device's row is a row of the whole array. -/
theorem block_apply (X : (⟨2, ![8192, 2048]⟩ : Shape).Idx → EReal) (h) (c : Dev nD) (j : Fin 8) (r : Fin 128) (k : Fin 2048) :
    Layout.blockN ⟨2, ![4096, 2048]⟩ ⟨2, ![8192, 2048]⟩ (Layout.meshBlock [2, 2, 2] ![[0], []] c) X h (ix2 ⟨_, local_lt c j r⟩ k)
      = X (ix2 ⟨_, row_lt c j r⟩ k) := by
  have hc : ∀ c : Dev nD, Layout.meshLin [2, 2, 2] c.val [0] = c.val / 4 ∧ Layout.meshLin [2, 2, 2] c.val [] = 0 := by decide
  refine congrArg X (funext fun b => Fin.ext ?_)
  match b with
  | ⟨0, _⟩ =>
    show Layout.meshLin [2, 2, 2] c.val [0] * 4096 + (1024 * (c.val % 4) + 128 * j.val + r.val) = 1024 * c.val + 128 * j.val + r.val
    rw [(hc c).1]; omega
  | ⟨1, _⟩ =>
    show Layout.meshLin [2, 2, 2] c.val [] * 2048 + k.val = k.val
    rw [(hc c).2]; omega

/-- The kernel's result on every device is the result over the whole arrays the devices' inputs are cut from. -/
theorem out_total (X D : (⟨2, ![8192, 2048]⟩ : Shape).Idx → EReal)
    (hX : ∀ c : Dev nD, src m 0 c = Layout.blockN ⟨2, ![4096, 2048]⟩ ⟨2, ![8192, 2048]⟩ (Layout.meshBlock [2, 2, 2] ![[0], []] c) X)
    (hD : ∀ c : Dev nD, src m 1 c = Layout.blockN ⟨2, ![4096, 2048]⟩ ⟨2, ![8192, 2048]⟩ (Layout.meshBlock [2, 2, 2] ![[0], []] c) D)
    (c : Dev nD) : outC m c = total X D := by
  funext j
  obtain ⟨i, l, rfl⟩ : ∃ (i : Fin 2) (l : Fin 2048), j = ix2 i l := ⟨j 0, j 1, eq_ix2 j⟩
  rw [outC_apply]
  refine Eq.trans (Finset.sum_congr rfl fun k _ => (accUpTo_apply m k i l 8 le_rfl).trans
    (Finset.sum_congr rfl fun n _ => Finset.sum_congr rfl fun r _ => ?_))
    (sum_rows fun R => contrib i (fun k => X (ix2 R k)) (fun k => D (ix2 R k)) l)
  rw [hX, hD]
  exact congrArg₂ (fun x d => contrib i x d l) (funext fun q => block_apply X _ k n r q) (funext fun q => block_apply D _ k n r q)

end Cert.Fused
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel at any float values: it ends, keeps its arguments and leaves every counter at zero. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩
      (fun r => (∀ c : Dev KernelIdeal.nD, Cert.Fused.Kept m c r.2) ∧ r.2.sem = fun _ => 0) :=
  (θ_run _ _ _).mono (fun _ h => ⟨fun c => (h.1 c).2, h.2⟩) (Cert.Fused.run_main (F := F) m ρ)

/-- The two programs have the same text, so the same body table. -/
theorem defs₀_eq : Kernel.defs₀ (F := Bits) = KernelIdeal.defs₀ (F := Bits) := by
  unfold Kernel.defs₀ KernelIdeal.defs₀
  refine congrArg Defs.onTc (funext fun l => funext fun a => ?_)
  match l, a with
  | 0, (t, s) => rfl
theorem defs_eq : Kernel.defs (F := Bits) = KernelIdeal.defs (F := Bits) := by
  unfold Kernel.defs KernelIdeal.defs; rw [defs₀_eq]; rfl

/-- The kernel at the bits. -/
theorem frame_kernel : Cert.quiescent_Kernel := fun m ρ _ => by
  rw [defs_eq]
  exact frame_any (F := Bits) m ρ

/-- The kernel at the extended reals. -/
theorem frame_ideal : Cert.quiescent_KernelIdeal := fun m ρ _ => frame_any (F := Ideal) m ρ

/-- The reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's: the same sum over the rows of the whole arrays. -/
theorem algebraic : Cert.algebraic_KernelIdeal_ReferenceIdeal := fun m g m' g' _ hin =>
  ⟨_, (θ_run _ _ _).mono (fun _ h c => ⟨((h.1 c).1).trans (Cert.Fused.out_total m _ _ (fun c => (hin c).1) (fun c => (hin c).2.1) c), (h.1 c).2⟩)
      (Cert.Fused.run_main (F := Ideal) m g),
    (θ_run Cert.ReferenceIdeal.defs _ _).mono (fun _ h => h 0) (Cert.Fused.ref_run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
